-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "fifth" .f32 0x3E4CCCCD#32 ((1 / 5 : ℝ) : EReal)

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S256x128 : Shape := ⟨2, ![256, 128]⟩
abbrev S16384x128 : Shape := ⟨2, ![16384, 128]⟩
abbrev S256x256x5 : Shape := ⟨3, ![256, 256, 5]⟩
abbrev S5x128 : Shape := ⟨2, ![5, 128]⟩
abbrev S_ : Shape := ⟨0, ![]⟩

class Facts : Prop where
  bcast_S_S256x256x5 : S_.BroadcastsInDim S256x256x5 (![] : Fin 0 → Fin S256x256x5.rank)
  reducesTo_S256x256x5_S_d0_1_2 : S256x256x5.ReducesTo [0, 1, 2] S_
  h_S_ : 0 < S_.numel

variable [Facts]

def fn {F : FTy → Type} [FloatOps F] (main_arg0 : FVec F S256x128 .f32) (main_arg1 : FVec F S16384x128 .f32) (main_arg2 : IVec S256x256x5 32) (main_arg3 : FVec F S5x128 .f32) : IVec S_ 1 :=
  let main_c : IVec S_ 32 := constantI S_ 32 0#32
  let main_v0 : IVec S256x256x5 32 := broadcastInDim S256x256x5 ![] bcast_S_S256x256x5 main_c
  let main_v1 : IVec S256x256x5 1 := cmpi .sge main_arg2 main_v0
  let main_c_0 : IVec S_ 32 := constantI S_ 32 16384#32
  let main_v2 : IVec S256x256x5 32 := broadcastInDim S256x256x5 ![] bcast_S_S256x256x5 main_c_0
  let main_v3 : IVec S256x256x5 1 := cmpi .slt main_arg2 main_v2
  let main_v4 : IVec S256x256x5 1 := andi main_v1 main_v3
  let main_c_1 : IVec S_ 1 := constantI S_ 1 1#1
  let main_v5 : IVec S_ 1 := (fun x v => Host.reduce IntOp.andi x v reducesTo_S256x256x5_S_d0_1_2 h_S_) main_v4 main_c_1
  main_v5
-- ==== Kernel.lean ====
abbrev S256x128 : Shape := ⟨2, ![256, 128]⟩
abbrev S16384x128 : Shape := ⟨2, ![16384, 128]⟩
abbrev S256x256x5 : Shape := ⟨3, ![256, 256, 5]⟩
abbrev S5x128 : Shape := ⟨2, ![5, 128]⟩
abbrev S_ : Shape := ⟨0, ![]⟩
abbrev S8x128 : Shape := ⟨2, ![8, 128]⟩
abbrev S1 : Shape := ⟨1, ![1]⟩
abbrev S8x16384 : Shape := ⟨2, ![8, 16384]⟩
abbrev S8192x128 : Shape := ⟨2, ![8192, 128]⟩
abbrev S8x8192 : Shape := ⟨2, ![8, 8192]⟩
abbrev S5x256x256 : Shape := ⟨3, ![5, 256, 256]⟩
abbrev S327680 : Shape := ⟨1, ![327680]⟩
abbrev S131072 : Shape := ⟨1, ![131072]⟩
abbrev S256x256 : Shape := ⟨2, ![256, 256]⟩
abbrev S81920 : Shape := ⟨1, ![81920]⟩
abbrev S10240 : Shape := ⟨1, ![10240]⟩
abbrev S8x256 : Shape := ⟨2, ![8, 256]⟩
abbrev S2048 : Shape := ⟨1, ![2048]⟩
abbrev S16 : Shape := ⟨1, ![16]⟩
abbrev S1x16 : Shape := ⟨2, ![1, 16]⟩

abbrev nBuf : Table → Nat
  | .hbm => 14
  | .local .tc .vmem => 5
  | .local .scVector .vmem => 3
  | _ => 0

abbrev bufTy : (tb : Table) → Fin (nBuf tb) → BufTy
  | .hbm, ⟨0, _⟩ => ⟨S256x128, .f32⟩
  | .hbm, ⟨1, _⟩ => ⟨S16384x128, .f32⟩
  | .hbm, ⟨2, _⟩ => ⟨S256x256x5, .i32⟩
  | .hbm, ⟨3, _⟩ => ⟨S5x128, .f32⟩
  | .hbm, ⟨4, _⟩ => ⟨S_, .f32⟩
  | .hbm, ⟨5, _⟩ => ⟨S8x128, .f32⟩
  | .hbm, ⟨6, _⟩ => ⟨S_, .i32⟩
  | .hbm, ⟨7, _⟩ => ⟨S1, .i32⟩
  | .hbm, ⟨8, _⟩ => ⟨S8x128, .f32⟩
  | .hbm, ⟨9, _⟩ => ⟨S8x16384, .f32⟩
  | .hbm, ⟨10, _⟩ => ⟨S5x256x256, .i32⟩
  | .hbm, ⟨11, _⟩ => ⟨S327680, .i32⟩
  | .hbm, ⟨12, _⟩ => ⟨S131072, .f32⟩
  | .hbm, ⟨13, _⟩ => ⟨S256x256, .f32⟩
  | .local .tc .vmem, ⟨0, _⟩ => ⟨S8x128, .f32⟩
  | .local .tc .vmem, ⟨1, _⟩ => ⟨S8192x128, .f32⟩
  | .local .tc .vmem, ⟨2, _⟩ => ⟨S8192x128, .f32⟩
  | .local .tc .vmem, ⟨3, _⟩ => ⟨S8x8192, .f32⟩
  | .local .tc .vmem, ⟨4, _⟩ => ⟨S8x8192, .f32⟩
  | .local .scVector .vmem, ⟨0, _⟩ => ⟨S81920, .f32⟩
  | .local .scVector .vmem, ⟨1, _⟩ => ⟨S10240, .i32⟩
  | .local .scVector .vmem, ⟨2, _⟩ => ⟨S8x256, .f32⟩
  | _, _ => ⟨S256x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v6_scv : Ref sig .scVector := ⟨.hbm, 12, rfl⟩
abbrev main_v5_scv : Ref sig .scVector := ⟨.hbm, 11, rfl⟩
abbrev main_v7_scv : Ref sig .scVector := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) (c0_i32_1 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v4 : BitVec 32 := Scalar.muli v1 c2048_i32
  let v5 : BitVec 32 := Scalar.addi c0_i32_1 v4
  ![v5.toNat]
@[reducible] def k1_t1_loop : Scf.Loop 32 :=
  let c0_i32_25 : BitVec 32 := 0#32
  let c128_i32 : BitVec 32 := 128#32
  let v56 : BitVec 32 := Scalar.addi c0_i32_25 c128_i32
  let c1_i32 : BitVec 32 := 1#32
  ⟨c0_i32_25, v56, c1_i32⟩
def k1_off2 (k1_t1 : Fin k1_t1_loop.trips) : Fin 1 → Nat :=
  let c0_i32_28 : BitVec 32 := 0#32
  let c0_i32_25 : BitVec 32 := 0#32
  let c1_i32 : BitVec 32 := 1#32
  let arg10 : BitVec 32 := Scf.iv c0_i32_25 c1_i32 k1_t1
  let c1_i32_27 : BitVec 32 := 1#32
  let v58 : BitVec 32 := Scalar.muli arg10 c1_i32_27
  let v59 : BitVec 32 := Scalar.addi c0_i32_28 v58
  let c16_i32 : BitVec 32 := 16#32
  let v60 : BitVec 32 := Scalar.muli v59 c16_i32
  let v61 : Index := Scalar.indexCast v60
  ![v61.toNat]

def k1_chk1 (v62 : IVec S16 32) : Prop :=
  (∀ a x, ((![v62] : Fin 1 → IVec S16 32) a x).toNat < S81920.size a)
theorem k1_idx1_inb : ∀ (v62 : IVec S16 32) (k1_hw1 : k1_chk1 v62), ∀ a x, ((![v62] : Fin 1 → IVec S16 32) a x).toNat < S81920.size a := fun v62 k1_hw1 => k1_hw1
def k1_off3 (k1_t1 : Fin k1_t1_loop.trips) : Fin 1 → Nat :=
  let c2048_i32_30 : BitVec 32 := 2048#32
  let c0_i32_28 : BitVec 32 := 0#32
  let c0_i32_25 : BitVec 32 := 0#32
  let c1_i32 : BitVec 32 := 1#32
  let arg10 : BitVec 32 := Scf.iv c0_i32_25 c1_i32 k1_t1
  let c1_i32_27 : BitVec 32 := 1#32
  let v58 : BitVec 32 := Scalar.muli arg10 c1_i32_27
  let v59 : BitVec 32 := Scalar.addi c0_i32_28 v58
  let c16_i32_29 : BitVec 32 := 16#32
  let v64 : BitVec 32 := Scalar.muli v59 c16_i32_29
  let v65 : BitVec 32 := Scalar.addi c2048_i32_30 v64
  let v66 : Index := Scalar.indexCast v65
  ![v66.toNat]

def k1_chk2 (v69 : IVec S16 32) : Prop :=
  (∀ a x, ((![v69] : Fin 1 → IVec S16 32) a x).toNat < S81920.size a)
theorem k1_idx2_inb : ∀ (v69 : IVec S16 32) (k1_hw2 : k1_chk2 v69), ∀ a x, ((![v69] : Fin 1 → IVec S16 32) a x).toNat < S81920.size a := fun v69 k1_hw2 => k1_hw2
def k1_off4 (k1_t1 : Fin k1_t1_loop.trips) : Fin 1 → Nat :=
  let c4096_i32_32 : BitVec 32 := 4096#32
  let c0_i32_28 : BitVec 32 := 0#32
  let c0_i32_25 : BitVec 32 := 0#32
  let c1_i32 : BitVec 32 := 1#32
  let arg10 : BitVec 32 := Scf.iv c0_i32_25 c1_i32 k1_t1
  let c1_i32_27 : BitVec 32 := 1#32
  let v58 : BitVec 32 := Scalar.muli arg10 c1_i32_27
  let v59 : BitVec 32 := Scalar.addi c0_i32_28 v58
  let c16_i32_31 : BitVec 32 := 16#32
  let v72 : BitVec 32 := Scalar.muli v59 c16_i32_31
  let v73 : BitVec 32 := Scalar.addi c4096_i32_32 v72
  let v74 : Index := Scalar.indexCast v73
  ![v74.toNat]

def k1_chk3 (v77 : IVec S16 32) : Prop :=
  (∀ a x, ((![v77] : Fin 1 → IVec S16 32) a x).toNat < S81920.size a)
theorem k1_idx3_inb : ∀ (v77 : IVec S16 32) (k1_hw3 : k1_chk3 v77), ∀ a x, ((![v77] : Fin 1 → IVec S16 32) a x).toNat < S81920.size a := fun v77 k1_hw3 => k1_hw3
def k1_off5 (k1_t1 : Fin k1_t1_loop.trips) : Fin 1 → Nat :=
  let c6144_i32_34 : BitVec 32 := 6144#32
  let c0_i32_28 : BitVec 32 := 0#32
  let c0_i32_25 : BitVec 32 := 0#32
  let c1_i32 : BitVec 32 := 1#32
  let arg10 : BitVec 32 := Scf.iv c0_i32_25 c1_i32 k1_t1
  let c1_i32_27 : BitVec 32 := 1#32
  let v58 : BitVec 32 := Scalar.muli arg10 c1_i32_27
  let v59 : BitVec 32 := Scalar.addi c0_i32_28 v58
  let c16_i32_33 : BitVec 32 := 16#32
  let v80 : BitVec 32 := Scalar.muli v59 c16_i32_33
  let v81 : BitVec 32 := Scalar.addi c6144_i32_34 v80
  let v82 : Index := Scalar.indexCast v81
  ![v82.toNat]

def k1_chk4 (v85 : IVec S16 32) : Prop :=
  (∀ a x, ((![v85] : Fin 1 → IVec S16 32) a x).toNat < S81920.size a)
theorem k1_idx4_inb : ∀ (v85 : IVec S16 32) (k1_hw4 : k1_chk4 v85), ∀ a x, ((![v85] : Fin 1 → IVec S16 32) a x).toNat < S81920.size a := fun v85 k1_hw4 => k1_hw4
def k1_off6 (k1_t1 : Fin k1_t1_loop.trips) : Fin 1 → Nat :=
  let c8192_i32_36 : BitVec 32 := 8192#32
  let c0_i32_28 : BitVec 32 := 0#32
  let c0_i32_25 : BitVec 32 := 0#32
  let c1_i32 : BitVec 32 := 1#32
  let arg10 : BitVec 32 := Scf.iv c0_i32_25 c1_i32 k1_t1
  let c1_i32_27 : BitVec 32 := 1#32
  let v58 : BitVec 32 := Scalar.muli arg10 c1_i32_27
  let v59 : BitVec 32 := Scalar.addi c0_i32_28 v58
  let c16_i32_35 : BitVec 32 := 16#32
  let v88 : BitVec 32 := Scalar.muli v59 c16_i32_35
  let v89 : BitVec 32 := Scalar.addi c8192_i32_36 v88
  let v90 : Index := Scalar.indexCast v89
  ![v90.toNat]

def k1_chk5 (v93 : IVec S16 32) : Prop :=
  (∀ a x, ((![v93] : Fin 1 → IVec S16 32) a x).toNat < S81920.size a)
theorem k1_idx5_inb : ∀ (v93 : IVec S16 32) (k1_hw5 : k1_chk5 v93), ∀ a x, ((![v93] : Fin 1 → IVec S16 32) a x).toNat < S81920.size a := fun v93 k1_hw5 => k1_hw5
def k1_off7 (k1_t1 : Fin k1_t1_loop.trips) : Fin 2 → Nat :=
  let c0_i32_28 : BitVec 32 := 0#32
  let c0_i32_25 : BitVec 32 := 0#32
  let c1_i32 : BitVec 32 := 1#32
  let arg10 : BitVec 32 := Scf.iv c0_i32_25 c1_i32 k1_t1
  let c1_i32_27 : BitVec 32 := 1#32
  let v58 : BitVec 32 := Scalar.muli arg10 c1_i32_27
  let v59 : BitVec 32 := Scalar.addi c0_i32_28 v58
  let c0_i32_39 : BitVec 32 := 0#32
  let v97 : BitVec 1 := Scalar.cmpi .sgt v59 c0_i32_39
  let v98 : BitVec 32 := Scalar.extui v97
  let c0_i32_40 : BitVec 32 := 0#32
  let v99 : BitVec 1 := Scalar.cmpi .slt v59 c0_i32_40
  let v100 : BitVec 32 := Scalar.extui v99
  let v101 : BitVec 32 := Scalar.subi v98 v100
  let c16_i32_38 : BitVec 32 := 16#32
  let c0_i32_41 : BitVec 32 := 0#32
  let v102 : BitVec 1 := Scalar.cmpi .sgt c16_i32_38 c0_i32_41
  let v103 : BitVec 32 := Scalar.extui v102
  let c0_i32_42 : BitVec 32 := 0#32
  let v104 : BitVec 1 := Scalar.cmpi .slt c16_i32_38 c0_i32_42
  let v105 : BitVec 32 := Scalar.extui v104
  let v106 : BitVec 32 := Scalar.subi v103 v105
  let v107 : BitVec 1 := Scalar.cmpi .ne v101 v106
  let v108 : BitVec 32 := Scalar.remsi v59 c16_i32_38
  let c0_i32_43 : BitVec 32 := 0#32
  let v109 : BitVec 1 := Scalar.cmpi .ne v108 c0_i32_43
  let v110 : BitVec 1 := Scalar.andi v107 v109
  let v96 : BitVec 32 := Scalar.divsi v59 c16_i32_38
  let c1_i32_44 : BitVec 32 := 1#32
  let v111 : BitVec 32 := Scalar.subi v96 c1_i32_44
  let v112 : BitVec 32 := Scalar.select v110 v111 v96
  let v124 : Index := Scalar.indexCast v112
  let c16_i32_45 : BitVec 32 := 16#32
  let c0_i32_46 : BitVec 32 := 0#32
  let v113 : BitVec 1 := Scalar.cmpi .eq c16_i32_45 c0_i32_46
  let c1_i32_47 : BitVec 32 := 1#32
  let v114 : BitVec 32 := Scalar.select v113 c1_i32_47 c16_i32_45
  let v115 : BitVec 32 := Scalar.remsi v59 v114
  let c0_i32_49 : BitVec 32 := 0#32
  let v117 : BitVec 1 := Scalar.cmpi .slt v115 c0_i32_49
  let c0_i32_50 : BitVec 32 := 0#32
  let v118 : BitVec 1 := Scalar.cmpi .slt v114 c0_i32_50
  let v119 : BitVec 1 := Scalar.xori v117 v118
  let c0_i32_48 : BitVec 32 := 0#32
  let v116 : BitVec 1 := Scalar.cmpi .ne v115 c0_i32_48
  let v120 : BitVec 1 := Scalar.andi v119 v116
  let v121 : BitVec 32 := Scalar.addi v115 v114
  let v122 : BitVec 32 := Scalar.select v120 v121 v115
  let c16_i32_51 : BitVec 32 := 16#32
  let v123 : BitVec 32 := Scalar.muli v122 c16_i32_51
  let v125 : Index := Scalar.indexCast v123
  ![v124.toNat, v125.toNat]
def k1_off8 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v57 : BitVec 32 := Scalar.muli v1 c8_i32
  let c0_i32_27_r0 : BitVec 32 := 0#32
  ![v57.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "fifth" => some ((1 / 5 : ℝ) : EReal)
  | _ => none
-- ==== ReferenceIdeal.lean ====
abbrev S256x128 : Shape := ⟨2, ![256, 128]⟩
abbrev S16384x128 : Shape := ⟨2, ![16384, 128]⟩
abbrev S256x256x5 : Shape := ⟨3, ![256, 256, 5]⟩
abbrev S5x128 : Shape := ⟨2, ![5, 128]⟩
abbrev S_ : Shape := ⟨0, ![]⟩
abbrev S256x256x5x1 : Shape := ⟨4, ![256, 256, 5, 1]⟩
abbrev S1 : Shape := ⟨1, ![1]⟩
abbrev S1x1x1x1 : Shape := ⟨4, ![1, 1, 1, 1]⟩
abbrev S256x256x5x128 : Shape := ⟨4, ![256, 256, 5, 128]⟩
abbrev S1x1x5x128 : Shape := ⟨4, ![1, 1, 5, 128]⟩
abbrev S256x256 : Shape := ⟨2, ![256, 256]⟩

abbrev nBuf : Space → Nat
  | .hbm => 64
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S16384x128, .f32⟩
  | .hbm, ⟨2, _⟩ => ⟨S256x256x5, .i32⟩
  | .hbm, ⟨3, _⟩ => ⟨S5x128, .f32⟩
  | .hbm, ⟨4, _⟩ => ⟨S_, .i32⟩
  | .hbm, ⟨5, _⟩ => ⟨S256x256x5, .i32⟩
  | .hbm, ⟨6, _⟩ => ⟨S256x256x5, .i1⟩
  | .hbm, ⟨7, _⟩ => ⟨S_, .i32⟩
  | .hbm, ⟨8, _⟩ => ⟨S256x256x5, .i32⟩
  | .hbm, ⟨9, _⟩ => ⟨S256x256x5, .i1⟩
  | .hbm, ⟨10, _⟩ => ⟨S256x256x5, .i1⟩
  | .hbm, ⟨11, _⟩ => ⟨S_, .i32⟩
  | .hbm, ⟨12, _⟩ => ⟨S_, .i32⟩
  | .hbm, ⟨13, _⟩ => ⟨S256x256x5, .i32⟩
  | .hbm, ⟨14, _⟩ => ⟨S256x256x5, .i32⟩
  | .hbm, ⟨15, _⟩ => ⟨S_, .i32⟩
  | .hbm, ⟨16, _⟩ => ⟨S256x256x5, .i32⟩
  | .hbm, ⟨17, _⟩ => ⟨S256x256x5, .i1⟩
  | .hbm, ⟨18, _⟩ => ⟨S_, .i32⟩
  | .hbm, ⟨19, _⟩ => ⟨S256x256x5, .i32⟩
  | .hbm, ⟨20, _⟩ => ⟨S256x256x5, .i32⟩
  | .hbm, ⟨21, _⟩ => ⟨S256x256x5, .i32⟩
  | .hbm, ⟨22, _⟩ => ⟨S256x256x5x1, .i32⟩
  | .hbm, ⟨23, _⟩ => ⟨S1, .i32⟩
  | .hbm, ⟨24, _⟩ => ⟨S_, .i32⟩
  | .hbm, ⟨25, _⟩ => ⟨S256x256x5x1, .i32⟩
  | .hbm, ⟨26, _⟩ => ⟨S256x256x5x1, .i1⟩
  | .hbm, ⟨27, _⟩ => ⟨S1x1x1x1, .i32⟩
  | .hbm, ⟨28, _⟩ => ⟨S256x256x5x1, .i32⟩
  | .hbm, ⟨29, _⟩ => ⟨S256x256x5x1, .i1⟩
  | .hbm, ⟨30, _⟩ => ⟨S256x256x5x1, .i1⟩
  | .hbm, ⟨31, _⟩ => ⟨S_, .i1⟩
  | .hbm, ⟨32, _⟩ => ⟨S256x256x5, .i1⟩
  | .hbm, ⟨33, _⟩ => ⟨S256x256x5x128, .f32⟩
  | .hbm, ⟨34, _⟩ => ⟨S256x256x5x128, .i1⟩
  | .hbm, ⟨35, _⟩ => ⟨S_, .f32⟩
  | .hbm, ⟨36, _⟩ => ⟨S256x256x5x128, .f32⟩
  | .hbm, ⟨37, _⟩ => ⟨S256x256x5x128, .f32⟩
  | .hbm, ⟨38, _⟩ => ⟨S1x1x5x128, .f32⟩
  | .hbm, ⟨39, _⟩ => ⟨S256x256x5x128, .f32⟩
  | .hbm, ⟨40, _⟩ => ⟨S256x256x5x128, .f32⟩
  | .hbm, ⟨41, _⟩ => ⟨S_, .f32⟩
  | .hbm, ⟨42, _⟩ => ⟨S256x256x5, .f32⟩
  | .hbm, ⟨43, _⟩ => ⟨S_, .f32⟩
  | .hbm, ⟨44, _⟩ => ⟨S_, .f32⟩
  | .hbm, ⟨45, _⟩ => ⟨S256x256x5, .f32⟩
  | .hbm, ⟨46, _⟩ => ⟨S256x256x5, .f32⟩
  | .hbm, ⟨47, _⟩ => ⟨S256x256x5, .i32⟩
  | .hbm, ⟨48, _⟩ => ⟨S_, .i32⟩
  | .hbm, ⟨49, _⟩ => ⟨S256x256, .i32⟩
  | .hbm, ⟨50, _⟩ => ⟨S_, .i32⟩
  | .hbm, ⟨51, _⟩ => ⟨S256x256, .i32⟩
  | .hbm, ⟨52, _⟩ => ⟨S256x256, .i1⟩
  | .hbm, ⟨53, _⟩ => ⟨S_, .f32⟩
  | .hbm, ⟨54, _⟩ => ⟨S256x256, .f32⟩
  | .hbm, ⟨55, _⟩ => ⟨S_, .i32⟩
  | .hbm, ⟨56, _⟩ => ⟨S256x256, .i32⟩
  | .hbm, ⟨57, _⟩ => ⟨S256x256, .i32⟩
  | .hbm, ⟨58, _⟩ => ⟨S256x256, .f32⟩
  | .hbm, ⟨59, _⟩ => ⟨S256x256, .f32⟩
  | .hbm, ⟨60, _⟩ => ⟨S_, .f32⟩
  | .hbm, ⟨61, _⟩ => ⟨S_, .f32⟩
  | .hbm, ⟨62, _⟩ => ⟨S256x256, .f32⟩
  | .hbm, ⟨63, _⟩ => ⟨S256x256, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_v5 : Ref sig .tc := ⟨.hbm, 14, rfl⟩
abbrev main_call1_c : Ref sig .tc := ⟨.hbm, 15, rfl⟩
abbrev main_call1_v0 : Ref sig .tc := ⟨.hbm, 16, rfl⟩
abbrev main_call1_v1 : Ref sig .tc := ⟨.hbm, 17, rfl⟩
abbrev main_call1_c_0 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_call1_v5 : Ref sig .tc := ⟨.hbm, 22, rfl⟩
abbrev main_call1_c_1 : Ref sig .tc := ⟨.hbm, 23, rfl⟩
abbrev main_call1_c_2 : Ref sig .tc := ⟨.hbm, 24, rfl⟩
abbrev main_call1_v6 : Ref sig .tc := ⟨.hbm, 25, rfl⟩
abbrev main_call1_v7 : Ref sig .tc := ⟨.hbm, 26, rfl⟩
abbrev main_call1_v8 : Ref sig .tc := ⟨.hbm, 27, rfl⟩
abbrev main_call1_v9 : Ref sig .tc := ⟨.hbm, 28, rfl⟩
abbrev main_call1_v10 : Ref sig .tc := ⟨.hbm, 29, rfl⟩
abbrev main_call1_v11 : Ref sig .tc := ⟨.hbm, 30, rfl⟩
abbrev main_call1_c_3 : Ref sig .tc := ⟨.hbm, 31, rfl⟩
abbrev main_call1_v12 : Ref sig .tc := ⟨.hbm, 32, rfl⟩
abbrev main_call1_v13 : Ref sig .tc := ⟨.hbm, 33, rfl⟩
abbrev main_call1_v14 : Ref sig .tc := ⟨.hbm, 34, rfl⟩
abbrev main_call1_cst : Ref sig .tc := ⟨.hbm, 35, rfl⟩
abbrev main_call1_v15 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_cst : Ref sig .tc := ⟨.hbm, 41, rfl⟩
abbrev main_v10 : Ref sig .tc := ⟨.hbm, 42, rfl⟩
abbrev main_cst_2 : Ref sig .tc := ⟨.hbm, 43, rfl⟩
abbrev main_call2_v0 : Ref sig .tc := ⟨.hbm, 44, rfl⟩
abbrev main_call2_v1 : Ref sig .tc := ⟨.hbm, 45, rfl⟩
abbrev main_v11 : Ref sig .tc := ⟨.hbm, 46, rfl⟩
abbrev main_v12 : Ref sig .tc := ⟨.hbm, 47, rfl⟩
abbrev main_c_3 : Ref sig .tc := ⟨.hbm, 48, rfl⟩
abbrev main_v13 : Ref sig .tc := ⟨.hbm, 49, rfl⟩
abbrev main_c_4 : Ref sig .tc := ⟨.hbm, 50, rfl⟩
abbrev main_v14 : Ref sig .tc := ⟨.hbm, 51, rfl⟩
abbrev main_v15 : Ref sig .tc := ⟨.hbm, 52, rfl⟩
abbrev main_cst_5 : Ref sig .tc := ⟨.hbm, 53, rfl⟩
abbrev main_v16 : Ref sig .tc := ⟨.hbm, 54, rfl⟩
abbrev main_c_6 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_cst_7 : Ref sig .tc := ⟨.hbm, 60, rfl⟩
abbrev main_call3_v0 : Ref sig .tc := ⟨.hbm, 61, rfl⟩
abbrev main_call3_v1 : Ref sig .tc := ⟨.hbm, 62, rfl⟩
abbrev main_v21 : Ref sig .tc := ⟨.hbm, 63, rfl⟩

abbrev nD : Nat := 1
abbrev τ : Topo := Topo.v7x

variable {F : FTy → Type} [FloatOps F]
-- ==== Proof.Setup.lean ====
/-
  The SparseCore kernel as the launch theorem sees it: the call's configuration, the resource algebra, the
  buffers the tiles share, and the VALUE a tile leaves in its eight rows of the result.

  A tile copies the first 81920 words of the table (five rows of 16384) and its own five runs of 2048 indices to its
  memory, and then, sixteen lanes at a time, looks five words up (path step `p`'s at `index + 16384 p`) and adds them
  from the left. `G tb ix` is that sum, for ANY table `tb` and ANY index list `ix`: the launch instantiates both.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.ShareLeaves
public import Idealize.ShloMosaic.Lib.Tactic

@[expose] public section

noncomputable section

namespace Cert.Proof.Edge

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' algebra is the left component, the pipeline's the left of the right one. -/
abbrev EH : Emb UH (MT nD τ sig (HIx 1) (Elt F) ℕ UU ℕ) := embL

/-- The pipeline's rounds in the certificate's algebra. -/
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP embR; infer_instance

/-! ## The buffers the tiles share -/

abbrev tbLoc (d : Dev nD) : Loc nD τ sig := (SparseCore.T d).loc main_v6
abbrev ixLoc (d : Dev nD) : Loc nD τ sig := (SparseCore.T d).loc main_v5
abbrev oLoc (d : Dev nD) : Loc nD τ sig := (SparseCore.T d).loc main_v7

/-! ## The value -/

/-- Word `n` of the index list (the position taken modulo the length, so that it is total), -/
abbrev ixAt (n : Nat) : S327680.Idx := fun | 0 => ⟨n % 327680, Nat.mod_lt n (by decide)⟩
/-- word `n` of the table. -/
abbrev tbAt (n : Nat) : S131072.Idx := fun | 0 => ⟨n % 131072, Nat.mod_lt n (by decide)⟩

variable (tb : S131072.Idx → F .f32) (ix : S327680.Idx → BitVec 32)

/-- Path step `p`'s word for pair number `n = 256 r + c`: the table's row `p` at that step's index. -/
def look (p n : Nat) : F .f32 := tb (tbAt ((ix (ixAt (65536 * p + n))).toNat + 16384 * p))

/-- The five words of a pair, added from the left. -/
def pairSum (n : Nat) : F .f32 :=
  FloatOps.addf (FloatOps.addf (FloatOps.addf (FloatOps.addf (look tb ix 0 n) (look tb ix 1 n)) (look tb ix 2 n)) (look tb ix 3 n)) (look tb ix 4 n)

/-- The whole result: element `(r, c)` is pair number `256 r + c`'s. -/
def G : S256x256.Idx → F .f32 := fun x => pairSum tb ix (256 * (x 0).val + (x 1).val)

end Cert.Proof.Edge

end
-- ==== Proof.Trip.lean ====
/-
  One trip of a tile's loop: sixteen pairs.
-/
module

public import proofs.«01_k».proof.Proof.Setup
public import Idealize.ShloMosaic.Lib.Pipeline.Value

@[expose] public section

noncomputable section

namespace Cert.Proof.Edge

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "tV" => (Memref.whole Cert.KernelIdeal.main_v6_scv : Memref Cert.KernelIdeal.sig Kind.scVector Space.hbm Cert.KernelIdeal.S131072 EltTy.f32)
local notation "xV" => (Memref.whole Cert.KernelIdeal.main_v5_scv : Memref Cert.KernelIdeal.sig Kind.scVector Space.hbm Cert.KernelIdeal.S327680 EltTy.i32)
local notation "oV" => (Memref.whole Cert.KernelIdeal.main_v7_scv : Memref Cert.KernelIdeal.sig Kind.scVector Space.hbm Cert.KernelIdeal.S256x256 EltTy.f32)
local notation "sT" => (Memref.whole Cert.KernelIdeal.cc1_scratch0 : Memref Cert.KernelIdeal.sig Kind.scVector Space.vmem Cert.KernelIdeal.S81920 EltTy.f32)
local notation "sX" => (Memref.whole Cert.KernelIdeal.cc1_scratch1 : Memref Cert.KernelIdeal.sig Kind.scVector Space.vmem Cert.KernelIdeal.S10240 EltTy.i32)
local notation "sO" => (Memref.whole Cert.KernelIdeal.cc1_scratch2 : Memref Cert.KernelIdeal.sig Kind.scVector Space.vmem Cert.KernelIdeal.S8x256 EltTy.f32)

variable (tb : Dev nD → S131072.Idx → F .f32) (ix : Dev nD → S327680.Idx → BitVec 32)
variable (d : Dev nD) (L : grid1.Coords)

abbrev cV (L : grid1.Coords) : Fin τ.nSC := (L 0).castLE hcore1
abbrev jV (L : grid1.Coords) : Fin τ.nSub := (L 1).castLE hsub1
abbrev VT (d : Dev nD) (L : grid1.Coords) : Thread nD τ := V d (cV L) (jV L)

abbrev at81920 (n : ℕ) : S81920.Idx := fun | 0 => ⟨n % 81920, Nat.mod_lt n (by decide)⟩
abbrev at10240 (n : ℕ) : S10240.Idx := fun | 0 => ⟨n % 10240, Nat.mod_lt n (by decide)⟩
/-- The position of the tile's first pair in a list. -/
abbrev base (L : grid1.Coords) : ℕ := 4096 * (L 1).val + 2048 * (L 0).val

/-- The pairs done before trip `k`, sixteen a trip. -/
def done (f : S8x256.Idx → F .f32) (k : ℕ) : Prop :=
  ∀ x : S8x256.Idx, 256 * (x 0).val + (x 1).val < 16 * k → f x = pairSum (tb d) (ix d) (base L + (256 * (x 0).val + (x 1).val))

def inv (ft : Buf (Elt F) ((sT).view.loc (VT d L))) (fx : Buf (Elt F) ((sX).view.loc (VT d L))) (k : ℕ) (_ : PUnit) : sProp 𝕄 :=
  iprop(((sT).view.loc (VT d L) ↦{fullShare} ft) ∗ ((sX).view.loc (VT d L) ↦{fullShare} fx)
    ∗ ∃ f : Buf (Elt F) ((sO).view.loc (VT d L)), ⌜done tb ix d L f k⌝ ∗ ((sO).view.loc (VT d L) ↦{fullShare} f))

/-- The window of sixteen list entries at offset `off` of the tile's lists. -/
abbrev ldAt (off : Fin 1 → ℕ) (inb : ∀ a, off a + S16.size a ≤ S10240.size a) (fx : Buf (Elt F) ((sX).view.loc (VT d L))) : IVec S16 32 :=
  View.readAt (Elt F) (sX).view (Rect.unit (s := S10240) off S16.size inb).toLoadRect fx

theorem ldAt_apply (fx : Buf (Elt F) ((sX).view.loc (VT d L)))
    (hfx : ∀ p j, p < 5 → j < 2048 → fx (at10240 (2048 * p + j)) = ix d (ixAt (65536 * p + (base L + j))))
    (p k : ℕ) (hp : p < 5) (hk : k < 128) (off : Fin 1 → ℕ) (inb) (hoff : off 0 = 16 * k + 2048 * p) (i : S16.Idx) :
    ldAt d L off inb fx i = ix d (ixAt (65536 * p + (base L + (16 * k + (i 0).val)))) := by
  have hi : (i 0).val < 16 := (i 0).isLt
  rw [← hfx p (16 * k + (i 0).val) hp (by omega)]
  refine ((View.readAt_apply (v := (sX).view) (Rect.unit (s := S10240) off S16.size inb).toLoadRect fx i).trans ((View.read_apply _ _).trans (cast_eq _ _))).trans ?_
  congr 1
  funext a
  match a with
  | 0 =>
    apply Fin.ext
    show off 0 + 1 * (i 0).val = (2048 * p + (16 * k + (i 0).val)) % 10240
    omega

theorem add_toNat (v : BitVec 32) (p : ℕ) (hp : p < 5) (hv : v.toNat < 16384) :
    (v + BitVec.ofNat 32 (16384 * p)).toNat = v.toNat + 16384 * p := by
  rw [BitVec.toNat_add, BitVec.toNat_ofNat]; omega

theorem gather_apply (hpre : ∀ d n, (ix d n).toNat < 16384) (ft : Buf (Elt F) ((sT).view.loc (VT d L)))
    (hft : ∀ n, n < 81920 → ft (at81920 n) = tb d (tbAt n)) (w : IVec S16 32) (p : ℕ) (hp : p < 5) (n : ℕ) (i : S16.Idx)
    (hw : (w i).toNat = (ix d (ixAt (65536 * p + n))).toNat + 16384 * p) (h) :
    loadIdx (F := F) (e := .f32) (s := S81920) (((sT).access (Rect.whole S81920)).read (Elt F) ft) ![w] h i = look (tb d) (ix d) p n := by
  have hlt := hpre d (ixAt (65536 * p + n))
  unfold look
  rw [← hft _ (by omega), ← hw]
  refine (congrFun (Memref.read_access_whole (Elt F) cc1_scratch0 ft) _).trans ?_
  congr 1
  funext a
  match a with
  | 0 =>
    apply Fin.ext
    show (w i).toNat = (w i).toNat % 81920
    omega

theorem off7_eq : ∀ k : Fin k1_t1_loop.trips, k1_off7 k = ![k.val / 16, 16 * (k.val % 16)] := by decide +kernel
theorem trips_eq : k1_t1_loop.trips = 128 := by decide +kernel

/-- Sixteen more pairs done: the row piece written at trip `k` holds the sums of its pairs. -/
theorem done_step (f : S8x256.Idx → F .f32) (k : Fin k1_t1_loop.trips) (hf : done tb ix d L f k.val) (v : FVec F S16 .f32)
    (hv : ∀ i : S16.Idx, v i = pairSum (tb d) (ix d) (base L + (16 * k.val + (i 0).val))) :
    done tb ix d L ((sO).view.writes (Elt F) f
      [⟨Rect.unit (s := S8x256) (k1_off7 k) S1x16.size (k1_off7_inb k), shapeCast S1x16 v shapeCasts_S16_S1x16⟩]) (k.val + 1) := by
  have hk : k.val < 128 := lt_of_lt_of_eq k.isLt trips_eq
  intro x hx
  have h0 : (x 0).val < 8 := (x 0).isLt
  have h1 : (x 1).val < 256 := (x 1).isLt
  refine ((View.read_apply (v := (sO).view) _ _).trans (cast_eq _ _)).symm.trans ?_
  by_cases hlt : 256 * (x 0).val + (x 1).val < 16 * k.val
  · refine (View.read_writes_apply_of_forall_not_mem (Val := Elt F) (sO).view f x _ ?_).trans ?_
    · intro p hp
      obtain rfl := List.mem_singleton.mp hp
      rw [Rect.mem_set_unit, off7_eq k]
      intro h
      have a0 := h 0
      have a1 := h 1
      have : k.val / 16 ≤ (x 0).val ∧ (x 0).val < k.val / 16 + 1 := a0
      have : 16 * (k.val % 16) ≤ (x 1).val ∧ (x 1).val < 16 * (k.val % 16) + 16 := a1
      omega
    · exact ((View.read_apply (v := (sO).view) _ _).trans (cast_eq _ _)).trans (hf x hlt)
  · refine (View.read_writes_apply_of_pieces (Val := Elt F) (sO).view f
      (fun y => pairSum (tb d) (ix d) (base L + (256 * (y 0).val + (y 1).val))) _ ?_ x ?_)
    · intro p hp
      obtain rfl := List.mem_singleton.mp hp
      intro y
      have y0 : (y 0).val < 1 := (y 0).isLt
      have y1 : (y 1).val < 16 := (y 1).isLt
      refine (shapeCast_apply (α := F .f32) v shapeCasts_S16_S1x16 y (fun | 0 => ⟨(y 1).val, y1⟩) ?_).trans ?_
      · rw [Shape.rowMajor_val_two, Shape.rowMajor_val_one]
        show (y 1).val = (y 0).val * 16 + (y 1).val
        omega
      · rw [hv]
        congr 2
        show 16 * k.val + (y 1).val = 256 * (k1_off7 k 0 + 1 * (y 0).val) + (k1_off7 k 1 + 1 * (y 1).val)
        have e0 : k1_off7 k 0 = k.val / 16 := congrFun (off7_eq k) 0
        have e1 : k1_off7 k 1 = 16 * (k.val % 16) := congrFun (off7_eq k) 1
        omega
    · refine ⟨_, List.mem_singleton_self _, ?_⟩
      rw [Rect.mem_set_unit, off7_eq k]
      intro a
      match a with
      | 0 =>
        show k.val / 16 ≤ (x 0).val ∧ (x 0).val < k.val / 16 + 1
        omega
      | 1 =>
        show 16 * (k.val % 16) ≤ (x 1).val ∧ (x 1).val < 16 * (k.val % 16) + 16
        omega

theorem trip_run (hpre : ∀ d n, (ix d n).toNat < 16384)
    (ft : Buf (Elt F) ((sT).view.loc (VT d L))) (fx : Buf (Elt F) ((sX).view.loc (VT d L)))
    (hft : ∀ n, n < 81920 → ft (at81920 n) = tb d (tbAt n))
    (hfx : ∀ p j, p < 5 → j < 2048 → fx (at10240 (2048 * p + j)) = ix d (ixAt (65536 * p + (base L + j))))
    (k : Fin k1_t1_loop.trips) (v1 : BitVec 32) (u : Unit) :
    inv tb ix d L ft fx k.val u
      ⊢ wp frame (wpE (defs₀ (F := F)) 𝒱₀ (VT d L) none) Set.univ
          (k1_t1_body L tV (Memref.isWhole_whole _) xV (Memref.isWhole_whole _) oV (Memref.isWhole_whole _)
            sT (Memref.isWhole_whole _) sX (Memref.isWhole_whole _) sO (Memref.isWhole_whole _) cc1_scratch3 cc1_scratch4 cc1_scoped0 v1 k u)
          fun u' => inv tb ix d L ft fx (k.val + 1) u' := by
  have hk : k.val < 128 := lt_of_lt_of_eq k.isLt trips_eq
  have hl (p : ℕ) (hp : p < 5) (off) (inb) (hoff : off 0 = 16 * k.val + 2048 * p) (i : S16.Idx) :=
    ldAt_apply ix d L fx hfx p k.val hp hk off inb hoff i
  have hw (p : ℕ) (hp : p < 5) (off) (inb) (hoff : off 0 = 16 * k.val + 2048 * p) (i : S16.Idx) :
      (addi (ldAt d L off inb fx) (broadcast S16 (BitVec.ofNat 32 (16384 * p))) i).toNat
        = (ix d (ixAt (65536 * p + (base L + (16 * k.val + (i 0).val))))).toNat + 16384 * p := by
    show (ldAt d L off inb fx i + BitVec.ofNat 32 (16384 * p)).toNat = _
    rw [hl p hp off inb hoff i, add_toNat _ p hp (hpre d _)]
  have hw0 (i : S16.Idx) : (ldAt d L (k1_off2 k) (k1_off2_inb k) fx i).toNat
      = (ix d (ixAt (65536 * 0 + (base L + (16 * k.val + (i 0).val))))).toNat + 16384 * 0 := by
    rw [hl 0 (by decide) _ _ (by rw [k1_off2_eq k]; rfl) i]; rfl
  have hw1 := hw 1 (by decide) (k1_off3 k) (k1_off3_inb k) (by rw [k1_off3_eq k]; rfl)
  have hw2 := hw 2 (by decide) (k1_off4 k) (k1_off4_inb k) (by rw [k1_off4_eq k]; rfl)
  have hw3 := hw 3 (by decide) (k1_off5 k) (k1_off5_inb k) (by rw [k1_off5_eq k]; rfl)
  have hw4 := hw 4 (by decide) (k1_off6 k) (k1_off6_inb k) (by rw [k1_off6_eq k]; rfl)
  have hlt (p n : ℕ) (hp : p < 5) : (ix d (ixAt n)).toNat + 16384 * p < 81920 := by
    have := hpre d (ixAt n); omega
  have c1 : k1_chk1 (ldAt d L (k1_off2 k) (k1_off2_inb k) fx) := fun a x => match a with
    | 0 => (hw0 x).trans_lt (hlt 0 _ (by decide))
  have c2 : k1_chk2 (addi (ldAt d L (k1_off3 k) (k1_off3_inb k) fx) (broadcast S16 16384#32)) := fun a x => match a with
    | 0 => (hw1 x).trans_lt (hlt 1 _ (by decide))
  have c3 : k1_chk3 (addi (ldAt d L (k1_off4 k) (k1_off4_inb k) fx) (broadcast S16 32768#32)) := fun a x => match a with
    | 0 => (hw2 x).trans_lt (hlt 2 _ (by decide))
  have c4 : k1_chk4 (addi (ldAt d L (k1_off5 k) (k1_off5_inb k) fx) (broadcast S16 49152#32)) := fun a x => match a with
    | 0 => (hw3 x).trans_lt (hlt 3 _ (by decide))
  have c5 : k1_chk5 (addi (ldAt d L (k1_off6 k) (k1_off6_inb k) fx) (broadcast S16 65536#32)) := fun a x => match a with
    | 0 => (hw4 x).trans_lt (hlt 4 _ (by decide))
  unfold inv
  iintro ⟨HT, HX, %f, %hf, HO⟩
  sl_unfold [k1_t1_body]
  sl_exec
  sl_unfold [SparseCore.vectorLoadIdx]
  sl_exec
  sl_step
  isplitl [HT]; · iexact HT
  isplitl [HX]; · iexact HX
  iexists _
  isplitr
  swap
  · iexact HO
  ipureintro
  refine done_step tb ix d L f k hf _ fun i => ?_
  sl_unfold_run_names
  unfold pairSum
  refine congr (congrArg FloatOps.addf (congr (congrArg FloatOps.addf (congr (congrArg FloatOps.addf (congr (congrArg FloatOps.addf ?_) ?_)) ?_)) ?_)) ?_
  · exact gather_apply tb ix d L hpre ft hft _ 0 (by decide) _ i (hw0 i) _
  · exact gather_apply tb ix d L hpre ft hft _ 1 (by decide) _ i (hw1 i) _
  · exact gather_apply tb ix d L hpre ft hft _ 2 (by decide) _ i (hw2 i) _
  · exact gather_apply tb ix d L hpre ft hft _ 3 (by decide) _ i (hw3 i) _
  · exact gather_apply tb ix d L hpre ft hft _ 4 (by decide) _ i (hw4 i) _

end Cert.Proof.Edge

end
-- ==== Proof.Tile.lean ====
/-
  One tile's run: its copies in, the loop over its pairs, its rows out.
-/
module

public import proofs.«01_k».proof.Proof.Trip

@[expose] public section

noncomputable section

namespace Cert.Proof.Edge

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "tV" => (Memref.whole Cert.KernelIdeal.main_v6_scv : Memref Cert.KernelIdeal.sig Kind.scVector Space.hbm Cert.KernelIdeal.S131072 EltTy.f32)
local notation "xV" => (Memref.whole Cert.KernelIdeal.main_v5_scv : Memref Cert.KernelIdeal.sig Kind.scVector Space.hbm Cert.KernelIdeal.S327680 EltTy.i32)
local notation "oV" => (Memref.whole Cert.KernelIdeal.main_v7_scv : Memref Cert.KernelIdeal.sig Kind.scVector Space.hbm Cert.KernelIdeal.S256x256 EltTy.f32)
local notation "sT" => (Memref.whole Cert.KernelIdeal.cc1_scratch0 : Memref Cert.KernelIdeal.sig Kind.scVector Space.vmem Cert.KernelIdeal.S81920 EltTy.f32)
local notation "sX" => (Memref.whole Cert.KernelIdeal.cc1_scratch1 : Memref Cert.KernelIdeal.sig Kind.scVector Space.vmem Cert.KernelIdeal.S10240 EltTy.i32)
local notation "sO" => (Memref.whole Cert.KernelIdeal.cc1_scratch2 : Memref Cert.KernelIdeal.sig Kind.scVector Space.vmem Cert.KernelIdeal.S8x256 EltTy.f32)

variable (tb : Dev nD → S131072.Idx → F .f32) (ix : Dev nD → S327680.Idx → BitVec 32)
variable (d : Dev nD) (L : grid1.Coords)

/-- The tile's eight rows of the result, as the body slices them. -/
abbrev oRows (L : grid1.Coords) : Memref sig .scVector .hbm S8x256 .f32 :=
  (oV).slice (Rect.unit (s := S256x256) (k1_off8 L) S8x256.size (k1_off8_inb L)) (fun _ => rfl)

abbrev csem (k : Nat) (hk : k < 8 := by decide) : DmaSem sig := ⟨k, hk⟩
/-- The three cells the tile names, at zero. -/
abbrev cells0 (d : Dev nD) (L : grid1.Coords) : sProp 𝕄 :=
  iprop(semVal (VT d L, SemLoc.dma (csem 5)) 0 ∗ semVal (VT d L, SemLoc.dma (csem 6)) 0 ∗ semVal (VT d L, SemLoc.dma (csem 7)) 0)

/-- The tile's window of list `r`: 2048 entries of the flattened index lists. -/
abbrev xWin (L : grid1.Coords) (r : Fin 5) : Memref sig .scVector .hbm S2048 .i32 :=
  (xV).slice (Rect.unit (s := S327680) (k1_off1 L (BitVec.ofNat 32 (65536 * r.val))) S2048.size (k1_off1_inb L r)) (fun _ => rfl)

/-- Two lists' windows do not meet. -/
theorem xWin_disjoint (L : grid1.Coords) (r r' : Fin 5) (h : r ≠ r') :
    Disjoint (xWin L r).view.set (xWin L r').view.set := by
  rw [Finset.disjoint_left]
  intro x hx hx'
  have e : ∀ r : Fin 5, x ∈ (xWin L r).view.set → 65536 * r.val + 4096 * (L 1).val + 2048 * (L 0).val ≤ (x 0).val
      ∧ (x 0).val < 65536 * r.val + 4096 * (L 1).val + 2048 * (L 0).val + 2048 := by
    intro r hr
    rw [View.set_slice_whole, Rect.mem_set_unit] at hr
    have := hr 0
    rw [k1_off1_eq L r] at this
    exact this
  have h1 := e r hx
  have h2 := e r' hx'
  have hL0 : (L 0).val < 2 := (L 0).isLt
  have hL1 : (L 1).val < 16 := (L 1).isLt
  have : r.val ≠ r'.val := fun e => h (Fin.ext e)
  omega

/-- The table copy leaves the table's first 81920 words in the tile's memory. -/
theorem table_landed (t0 : Buf (Elt F) ((sT).view.loc (VT d L))) (n : ℕ) (hn : n < 81920) :
    View.write (Elt F) (sT).view t0
      (ReadAs.same.apply (View.read (Elt F) ((tV).slice (Rect.unit (s := S131072) ![0] S81920.size inb_S131072_S81920_0) (fun _ => rfl)).view (tb d)))
      Finset.univ (at81920 n) = tb d (tbAt n) := by
  refine (congrFun (View.write_whole_univ cc1_scratch0 t0 _) (at81920 n)).trans ?_
  refine ((View.read_apply (v := ((tV).slice (Rect.unit (s := S131072) ![0] S81920.size inb_S131072_S81920_0) (fun _ => rfl)).view) _ _).trans (cast_eq _ _)).trans ?_
  congr 1
  funext a
  match a with
  | 0 =>
    apply Fin.ext
    show 0 + 1 * (n % 81920) = n % 131072
    omega

/-- What a list's window holds, at the tile's lists' positions. -/
theorem list_piece (r : Fin 5) (y : S2048.Idx) :
    ReadAs.same.apply (View.read (Elt F) (xWin L r).view (ix d)) y
      = ix d (ixAt (65536 * r.val + (base L + (y 0).val))) := by
  have hL0 : (L 0).val < 2 := (L 0).isLt
  have hL1 : (L 1).val < 16 := (L 1).isLt
  have hy : (y 0).val < 2048 := (y 0).isLt
  have hr : r.val < 5 := r.isLt
  refine ((View.read_apply (v := (xWin L r).view) _ _).trans (cast_eq _ _)).trans ?_
  congr 1
  funext a
  match a with
  | 0 =>
    apply Fin.ext
    show k1_off1 L (BitVec.ofNat 32 (65536 * r.val)) 0 + 1 * (y 0).val = (65536 * r.val + (4096 * (L 1).val + 2048 * (L 0).val + (y 0).val)) % 327680
    have e : k1_off1 L (BitVec.ofNat 32 (65536 * r.val)) 0 = 65536 * r.val + 4096 * (L 1).val + 2048 * (L 0).val := congrFun (k1_off1_eq L r) 0
    omega

/-- The five copies leave the tile's part of each list, one after the other. -/
theorem lists_landed (x0 : Buf (Elt F) ((sX).view.loc (VT d L))) (p j : ℕ) (hp : p < 5) (hj : j < 2048) :
    (sX).view.writes (Elt F) x0
      [⟨Rect.unit (s := S10240) ![8192] S2048.size inb_S10240_S2048_8192, ReadAs.same.apply (View.read (Elt F) (xWin L 4).view (ix d))⟩,
       ⟨Rect.unit (s := S10240) ![6144] S2048.size inb_S10240_S2048_6144, ReadAs.same.apply (View.read (Elt F) (xWin L 3).view (ix d))⟩,
       ⟨Rect.unit (s := S10240) ![4096] S2048.size inb_S10240_S2048_4096, ReadAs.same.apply (View.read (Elt F) (xWin L 2).view (ix d))⟩,
       ⟨Rect.unit (s := S10240) ![2048] S2048.size inb_S10240_S2048_2048, ReadAs.same.apply (View.read (Elt F) (xWin L 1).view (ix d))⟩,
       ⟨Rect.unit (s := S10240) ![0] S2048.size inb_S10240_S2048_0, ReadAs.same.apply (View.read (Elt F) (xWin L 0).view (ix d))⟩]
      (at10240 (2048 * p + j)) = ix d (ixAt (65536 * p + (base L + j))) := by
  refine ((View.read_apply (v := (sX).view) _ _).trans (cast_eq _ _)).symm.trans ?_
  refine (View.read_writes_apply_of_pieces (Val := Elt F) (sX).view x0
    (fun z => ix d (ixAt (65536 * ((z 0).val / 2048) + (base L + (z 0).val % 2048)))) _ ?_ (at10240 (2048 * p + j)) ?_).trans ?_
  · intro q hq
    simp only [List.mem_cons, List.not_mem_nil, or_false] at hq
    rcases hq with rfl | rfl | rfl | rfl | rfl <;> intro y <;> have hy : (y 0).val < 2048 := (y 0).isLt
    · refine (list_piece (F := F) ix d L 4 y).trans ?_
      show _ = ix d (ixAt (65536 * ((8192 + 1 * (y 0).val) / 2048) + (base L + (8192 + 1 * (y 0).val) % 2048)))
      congr 2; show 65536 * 4 + _ = _; omega
    · refine (list_piece (F := F) ix d L 3 y).trans ?_
      show _ = ix d (ixAt (65536 * ((6144 + 1 * (y 0).val) / 2048) + (base L + (6144 + 1 * (y 0).val) % 2048)))
      congr 2; show 65536 * 3 + _ = _; omega
    · refine (list_piece (F := F) ix d L 2 y).trans ?_
      show _ = ix d (ixAt (65536 * ((4096 + 1 * (y 0).val) / 2048) + (base L + (4096 + 1 * (y 0).val) % 2048)))
      congr 2; show 65536 * 2 + _ = _; omega
    · refine (list_piece (F := F) ix d L 1 y).trans ?_
      show _ = ix d (ixAt (65536 * ((2048 + 1 * (y 0).val) / 2048) + (base L + (2048 + 1 * (y 0).val) % 2048)))
      congr 2; show 65536 * 1 + _ = _; omega
    · refine (list_piece (F := F) ix d L 0 y).trans ?_
      show _ = ix d (ixAt (65536 * ((0 + 1 * (y 0).val) / 2048) + (base L + (0 + 1 * (y 0).val) % 2048)))
      congr 2; show 65536 * 0 + _ = _; omega
  · have key (o : ℕ) (inb) (h : o ≤ 2048 * p + j ∧ 2048 * p + j < o + 2048) :
        (at10240 (2048 * p + j)) ∈ (Rect.unit (s := S10240) ![o] S2048.size inb).set := by
      rw [Rect.mem_set_unit]
      intro a
      match a with
      | 0 =>
        show o ≤ (2048 * p + j) % 10240 ∧ (2048 * p + j) % 10240 < o + 2048
        omega
    interval_cases p
    · exact ⟨_, List.mem_cons_of_mem _ (List.mem_cons_of_mem _ (List.mem_cons_of_mem _ (List.mem_cons_of_mem _ List.mem_cons_self))), key 0 inb_S10240_S2048_0 (by omega)⟩
    · exact ⟨_, List.mem_cons_of_mem _ (List.mem_cons_of_mem _ (List.mem_cons_of_mem _ List.mem_cons_self)), key 2048 inb_S10240_S2048_2048 (by omega)⟩
    · exact ⟨_, List.mem_cons_of_mem _ (List.mem_cons_of_mem _ List.mem_cons_self), key 4096 inb_S10240_S2048_4096 (by omega)⟩
    · exact ⟨_, List.mem_cons_of_mem _ List.mem_cons_self, key 6144 inb_S10240_S2048_6144 (by omega)⟩
    · exact ⟨_, List.mem_cons_self, key 8192 inb_S10240_S2048_8192 (by omega)⟩
  · show ix d (ixAt (65536 * (((2048 * p + j) % 10240) / 2048) + (base L + ((2048 * p + j) % 10240) % 2048))) = _
    congr 2; omega

/-- The copy out leaves the result's values in the tile's rows. -/
theorem rows_landed (fo : Buf (Elt F) (oLoc d)) (f : S8x256.Idx → F .f32) (hf : done tb ix d L f k1_t1_loop.trips) :
    ∀ i ∈ (oRows L).view.set, (oRows L).view.writes (Elt F) fo [⟨Rect.whole S8x256, ReadAs.same.apply (View.read (Elt F) (sO).view f)⟩] i
      = G (tb d) (ix d) i := by
  intro i hi
  obtain ⟨y, -, rfl⟩ := Finset.mem_map.mp hi
  have y0 : (y 0).val < 8 := (y 0).isLt
  have y1 : (y 1).val < 256 := (y 1).isLt
  refine ((View.read_apply (v := (oRows L).view) _ _).trans (cast_eq _ _)).symm.trans ?_
  refine (congrFun (View.read_writes_whole (Val := Elt F) (oRows L).view fo _) y).trans ?_
  refine ((View.read_apply (v := (sO).view) _ _).trans (cast_eq _ _)).trans ?_
  refine (hf y (by rw [trips_eq]; omega)).trans ?_
  unfold G
  congr 1
  show base L + (256 * (y 0).val + (y 1).val) = 256 * (k1_off8 L 0 + 1 * (y 0).val) + (k1_off8 L 1 + 1 * (y 1).val)
  have e0 : k1_off8 L 0 = 16 * (L 1).val + 8 * (L 0).val := congrFun (k1_off8_eq L) 0
  have e1 : k1_off8 L 1 = 0 := congrFun (k1_off8_eq L) 1
  show 4096 * (L 1).val + 2048 * (L 0).val + _ = _
  omega

theorem tile_run (hpre : ∀ d n, (ix d n).toNat < 16384) (q : PosShare TreeShare) (O : CellTallies nD τ sig (HIx 1)) (W : Waits sig (HIx 1))
    (fo : Buf (Elt F) (oLoc d))
    (t0 : Buf (Elt F) ((sT).view.loc (VT d L))) (x0 : Buf (Elt F) ((sX).view.loc (VT d L))) (o0 : Buf (Elt F) ((sO).view.loc (VT d L))) :
    (iprop(Transfers.MayWaits (VT d L) (default : HIx 1) O
        ∗ ((tV).view.loc (VT d L) ↦{q} tb d)
        ∗ ((xV).view.loc (VT d L) ↦{q} ix d)
        ∗ ((oRows L).view.loc (VT d L) ↦[(oRows L).view.set]{fullShare} fo)
        ∗ ((sT).view.loc (VT d L) ↦{fullShare} t0)
        ∗ ((sX).view.loc (VT d L) ↦{fullShare} x0)
        ∗ ((sO).view.loc (VT d L) ↦{fullShare} o0)
        ∗ cells0 d L
        ∗ owes (VT d L) O W) : sProp 𝕄)
      ⊢ wp frame (wpE (defs₀ (F := F)) 𝒱₀ (VT d L) none) Set.univ
          (cc1_sc_gather L tV (Memref.isWhole_whole _) xV (Memref.isWhole_whole _) oV (Memref.isWhole_whole _)
            sT (Memref.isWhole_whole _) sX (Memref.isWhole_whole _) sO (Memref.isWhole_whole _) cc1_scratch3 cc1_scratch4 cc1_scoped0)
          fun _ => iprop(((tV).view.loc (VT d L) ↦{q} tb d)
            ∗ ((xV).view.loc (VT d L) ↦{q} ix d)
            ∗ ((oRows L).view.loc (VT d L) ↦[(oRows L).view.set]{fullShare} (G (tb d) (ix d) : Buf (Elt F) (oLoc d)))
            ∗ (∃ g, (sT).view.loc (VT d L) ↦[(sT).view.set]{fullShare} g)
            ∗ (∃ g, (sX).view.loc (VT d L) ↦[(sX).view.set]{fullShare} g)
            ∗ (∃ g, (sO).view.loc (VT d L) ↦[(sO).view.set]{fullShare} g)
            ∗ cells0 d L
            ∗ ∃ W', ⌜∀ p ∈ W', p ∈ W ∨ p.2 = default⌝ ∗ owes (VT d L) O W') := by
  iintro ⟨#Hmw, HT, HX, HO, HsT, HsX, HsO, ⟨Hc5, Hc6, Hc7⟩, Hw⟩
  have _plan : Transfers.BatchOf (VT d L) (SemLoc.dma cc1_scratch4.sem) 5 (windows := true) := trivial
  have dj : ∀ r r' : Fin 5, r ≠ r' → Disjoint (xWin L r).view.set (xWin L r').view.set := xWin_disjoint L
  have d01 : Disjoint (xWin L 0).view.set (xWin L 1).view.set := dj _ _ (by decide)
  have d02 : Disjoint (xWin L 0).view.set (xWin L 2).view.set := dj _ _ (by decide)
  have d03 : Disjoint (xWin L 0).view.set (xWin L 3).view.set := dj _ _ (by decide)
  have d04 : Disjoint (xWin L 0).view.set (xWin L 4).view.set := dj _ _ (by decide)
  have d12 : Disjoint (xWin L 1).view.set (xWin L 2).view.set := dj _ _ (by decide)
  have d13 : Disjoint (xWin L 1).view.set (xWin L 3).view.set := dj _ _ (by decide)
  have d14 : Disjoint (xWin L 1).view.set (xWin L 4).view.set := dj _ _ (by decide)
  have d23 : Disjoint (xWin L 2).view.set (xWin L 3).view.set := dj _ _ (by decide)
  have d24 : Disjoint (xWin L 2).view.set (xWin L 4).view.set := dj _ _ (by decide)
  have d34 : Disjoint (xWin L 3).view.set (xWin L 4).view.set := dj _ _ (by decide)
  clear dj
  sl_unfold [cc1_sc_gather]
  sl_exec
  ihave HsT := (show ((sT).view.loc (VT d L) ↦{fullShare} _ : sProp 𝕄) ⊢ ∃ ft : Buf (Elt F) ((sT).view.loc (VT d L)), ⌜∀ n, n < 81920 → ft (at81920 n) = tb d (tbAt n)⌝ ∗ (sT).view.loc (VT d L) ↦{fullShare} ft from ?_) $$ HsT
  · iintro H
    iexists _
    isplitr
    swap
    · iexact H
    ipureintro
    intro n hn
    sl_unfold_run_names
    exact table_landed tb d L t0 n hn
  icases HsT with ⟨%ft, %hft, HsT⟩
  ihave HsX := (show ((sX).view.loc (VT d L) ↦{fullShare} _ : sProp 𝕄) ⊢ ∃ fx : Buf (Elt F) ((sX).view.loc (VT d L)), ⌜∀ p j, p < 5 → j < 2048 → fx (at10240 (2048 * p + j)) = ix d (ixAt (65536 * p + (base L + j)))⌝ ∗ (sX).view.loc (VT d L) ↦{fullShare} fx from ?_) $$ HsX
  · iintro H
    iexists _
    isplitr
    swap
    · iexact H
    ipureintro
    intro p j hp hj
    sl_unfold_run_names
    exact lists_landed ix d L _ p j hp hj
  icases HsX with ⟨%fx, %hfx, HsX⟩
  sl_for (inv tb ix d L ft fx) $$ [HsT HsX HsO]
  case region =>
    intro k _
    exact trip_run tb ix d L hpre ft fx hft hfx k 0#32 _
  · unfold inv
    isplitl [HsT]; · iexact HsT
    isplitl [HsX]; · iexact HsX
    iexists _
    isplitr
    swap
    · iexact HsO
    ipureintro
    exact fun x hx => absurd hx (Nat.not_lt_zero _)
  iintro %_ HI
  unfold inv
  icases HI with ⟨HsT, HsX, %f, %hf, HsO⟩
  sl_exec
  sl_step
  isplitl [HT]; · iexact HT
  isplitl [HX]; · iexact HX
  isplitl [HO]
  · iapply (Entails.of_eq (pointsTo_congr (rows_landed tb ix d L fo f hf))); iexact HO
  isplitl [HsT]; · iexists _; rw [View.set_whole]; iexact HsT
  isplitl [HsX]; · iexists _; rw [View.set_whole]; iexact HsX
  isplitl [HsO]; · iexists _; rw [View.set_whole]; iexact HsO
  isplitl [Hc5 Hc6 Hc7]
  · isplitl [Hc5]; · iexact Hc5
    isplitl [Hc6]; · iexact Hc6
    iexact Hc7
  iexists _
  isplitr
  swap
  · iexact Hw
  ipureintro
  intro p hp
  simp only [Finset.mem_insert] at hp
  rcases hp with rfl | rfl | rfl | rfl | rfl | rfl | rfl | hp
  all_goals first | exact Or.inr rfl | exact Or.inl hp

end Cert.Proof.Edge

end
-- ==== Proof.Calls.lean ====
/-
  What the call hands each SparseCore and each tile, and what they bring back; a tile's obligation; the split of a
  SparseCore's part over its tiles.
-/
module

public import proofs.«01_k».proof.Proof.Tile

@[expose] public section

noncomputable section

namespace Cert.Proof.Edge

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "tV" => (Memref.whole Cert.KernelIdeal.main_v6_scv : Memref Cert.KernelIdeal.sig Kind.scVector Space.hbm Cert.KernelIdeal.S131072 EltTy.f32)
local notation "xV" => (Memref.whole Cert.KernelIdeal.main_v5_scv : Memref Cert.KernelIdeal.sig Kind.scVector Space.hbm Cert.KernelIdeal.S327680 EltTy.i32)
local notation "oV" => (Memref.whole Cert.KernelIdeal.main_v7_scv : Memref Cert.KernelIdeal.sig Kind.scVector Space.hbm Cert.KernelIdeal.S256x256 EltTy.f32)
local notation "sT" => (Memref.whole Cert.KernelIdeal.cc1_scratch0 : Memref Cert.KernelIdeal.sig Kind.scVector Space.vmem Cert.KernelIdeal.S81920 EltTy.f32)
local notation "sX" => (Memref.whole Cert.KernelIdeal.cc1_scratch1 : Memref Cert.KernelIdeal.sig Kind.scVector Space.vmem Cert.KernelIdeal.S10240 EltTy.i32)
local notation "sO" => (Memref.whole Cert.KernelIdeal.cc1_scratch2 : Memref Cert.KernelIdeal.sig Kind.scVector Space.vmem Cert.KernelIdeal.S8x256 EltTy.f32)

variable (tb : Dev nD → S131072.Idx → F .f32) (ix : Dev nD → S327680.Idx → BitVec 32)
variable (d : Dev nD) (L : grid1.Coords)

/-! ## The tiles' coordinates and rows -/

/-- The coordinates of tile `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

/-- The rows of the result that tile `s` of SparseCore `c` writes. -/
abbrev rowSet (p : Fin 2 × Fin 16) : Finset S256x256.Idx := (oRows (coordsV p.1 p.2)).view.set

theorem mem_rowSet (p : Fin 2 × Fin 16) (x : S256x256.Idx) :
    x ∈ rowSet p ↔ 16 * p.2.val + 8 * p.1.val ≤ (x 0).val ∧ (x 0).val < 16 * p.2.val + 8 * p.1.val + 8 := by
  have e : k1_off8 (coordsV p.1 p.2) = ![16 * p.2.val + 8 * p.1.val, 0] := k1_off8_eq (coordsV p.1 p.2)
  have h1 : (x 1).val < 256 := (x 1).isLt
  show x ∈ (oRows (coordsV p.1 p.2)).view.set ↔ _
  rw [View.set_slice_whole, Rect.mem_set_unit, e]
  constructor
  · intro h; exact h 0
  · intro h a
    match a with
    | 0 => exact h
    | 1 => exact ⟨Nat.zero_le _, show (x 1).val < 0 + 256 by omega⟩

theorem rows_disjoint : ∀ p ∈ (Finset.univ : Finset (Fin 2 × Fin 16)), ∀ p' ∈ (Finset.univ : Finset (Fin 2 × Fin 16)), p ≠ p' → Disjoint (rowSet p) (rowSet p') := by
  intro p _ p' _ hne
  rw [Finset.disjoint_left]
  intro x hx hx'
  rw [mem_rowSet] at hx hx'
  have h1 := p.1.isLt
  have h2 := p'.1.isLt
  apply hne
  refine Prod.ext (Fin.ext ?_) (Fin.ext ?_) <;> omega

theorem rows_cover : (Finset.univ : Finset (Fin 2 × Fin 16)).biUnion rowSet = Finset.univ := by
  ext x
  simp only [Finset.mem_biUnion, Finset.mem_univ, true_and, iff_true]
  have h0 : (x 0).val < 256 := (x 0).isLt
  refine ⟨(⟨(x 0).val / 8 % 2, by omega⟩, ⟨(x 0).val / 16, by omega⟩), ?_⟩
  rw [mem_rowSet]
  show 16 * ((x 0).val / 16) + 8 * ((x 0).val / 8 % 2) ≤ _ ∧ _ < 16 * ((x 0).val / 16) + 8 * ((x 0).val / 8 % 2) + 8
  omega

/-! ## What the call hands over -/

variable (o0 : (d : Dev nD) → Buf (Elt F) (oLoc d))

/-- SparseCore `c`'s share of a buffer that all tiles read, and tile `i`'s part of it. -/
abbrev coreQ (c : Fin 2) : PosShare TreeShare := ShareLeaves.leaf 1 fullShare c
abbrev tileQ (c : Fin 2) (i : Fin 16) : PosShare TreeShare := ShareLeaves.leaf 4 (coreQ c) i

abbrev corePts (d : Dev nD) (f : Buf (Elt F) (oLoc d)) (c : Fin 2) : sProp 𝕄 :=
  iprop((tbLoc d ↦{coreQ c} tb d) ∗ (ixLoc d ↦{coreQ c} ix d) ∗ bigSep Finset.univ fun i : Fin 16 => oLoc d ↦[rowSet (c, i)]{fullShare} f)
abbrev tilePts (d : Dev nD) (f : Buf (Elt F) (oLoc d)) (c : Fin 2) (i : Fin 16) : sProp 𝕄 :=
  iprop((tbLoc d ↦{tileQ c i} tb d) ∗ (ixLoc d ↦{tileQ c i} ix d) ∗ oLoc d ↦[rowSet (c, i)]{fullShare} f)

/-- The result of the whole call, as a buffer's contents. -/
abbrev OUT (d : Dev nD) : Buf (Elt F) (oLoc d) := G (tb d) (ix d)

/-- The one call takes a share of the table and of the index list for each SparseCore, and its tiles' rows of the result;
    each tile its share of both and its eight rows, and brings the rows back at the result's values. -/
def P : (K (F := F)).Pay (nD := nD) (Val := Elt F) (Name := ℕ) (U := UU) where
  st := fun q d c => match q with | 0 => corePts tb ix d (o0 d) (Fin.cast nCore_zero c)
  dn := fun q d c => match q with | 0 => corePts tb ix d (OUT tb ix d) (Fin.cast nCore_zero c)
  go := fun q d c i => match q with | 0 => tilePts tb ix d (o0 d) (Fin.cast nCore_zero c) (Fin.cast nSub_zero i)
  td := fun q d c i => match q with | 0 => tilePts tb ix d (OUT tb ix d) (Fin.cast nCore_zero c) (Fin.cast nSub_zero i)
  x := fun _ _ => iprop(emp)

instance P_storable : (P (F := F) tb ix o0).IsStorable where
  st q d c := match q with
    | 0 => (inferInstance : BI.Storable (upEmb : UEmb _ 𝕄) (corePts tb ix d (o0 d) (Fin.cast nCore_zero c)))
  dn q d c := match q with
    | 0 => (inferInstance : BI.Storable (upEmb : UEmb _ 𝕄) (corePts tb ix d (OUT tb ix d) (Fin.cast nCore_zero c)))
  go q d c i := match q with
    | 0 => (inferInstance : BI.Storable (upEmb : UEmb _ 𝕄) (tilePts tb ix d (o0 d) (Fin.cast nCore_zero c) (Fin.cast nSub_zero i)))
  td q d c i := match q with
    | 0 => (inferInstance : BI.Storable (upEmb : UEmb _ 𝕄) (tilePts tb ix d (OUT tb ix d) (Fin.cast nCore_zero c) (Fin.cast nSub_zero i)))

/-! ## A tile's obligation -/

abbrev dcell (d : Dev nD) (c : Fin τ.nSC) (i : Fin τ.nSub) (k : Fin 3) : GSem nD τ sig := (V d c i, .dma (csem (5 + k.val) (by omega)))

theorem dcell_mem (c : Fin τ.nSC) (i : Fin τ.nSub) (k : Fin 3) : dcell d c i k ∈ ownCells (V d c i) :=
  mem_ownCells.mpr ⟨rfl, (show ∀ k : Fin 3, (SemLoc.dma (csem (5 + k.val) (by omega)) : SemLoc sig).isScoped .scVector = true by decide) k⟩

/-- The tile's own cells at zero: the three its task names and the rest. -/
theorem ownSems0_V :
    (ownSems0 (VT d L) : sProp 𝕄)
      = iprop(cells0 d L ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext (by omega))]
  rw [show (Finset.univ : Finset (Fin 3)) = {0, 1, 2} by decide,
    SparseCore.bigSep_insert' (by decide), SparseCore.bigSep_insert' (by decide), bigSep_singleton]
  rfl

abbrev scr (L : grid1.Coords) (b : Ref sig .scVector) : DevRef τ sig := (Proc.scVector (cV L) (jV L)).devRef b

/-- The tile's three scratch buffers are among its own: they are them, at some contents, and the rest. -/
theorem ownBufs_V :
    (ownBufs (VT d L) : sProp 𝕄)
      = iprop((∃ f, (VT d L).loc cc1_scratch0 ↦{fullShare} f) ∗ (∃ f, (VT d L).loc cc1_scratch1 ↦{fullShare} f)
          ∗ (∃ f, (VT d L).loc cc1_scratch2 ↦{fullShare} f)
          ∗ bigSep ((((ownRefs (τ := τ) (.scVector (cV L) (jV L))).erase (scr L cc1_scratch0)).erase (scr L cc1_scratch1)).erase (scr L cc1_scratch2))
              fun b => iprop(∃ f, ((d, b) : Loc nD τ sig) ↦{fullShare} f)) := by
  have own (b : Ref sig .scVector) (h : ((Proc.scVector (cV L) (jV L)).devRef b).owner = _) :=
    SparseCore.Cfg.mem_ownRefs_of_owner (p := Proc.scVector (cV L) (jV L)) (b := (Proc.scVector (cV L) (jV L)).devRef b) h
  have ne (b b' : Ref sig .scVector) (h : b ≠ b') : scr L b ≠ scr L b' := fun e => h (Proc.devRef_injective _ e)
  unfold SparseCore.Cfg.ownBufs
  refine (SparseCore.bigSep_erase' (own cc1_scratch0 rfl)).trans ?_
  rw [SparseCore.bigSep_erase' (Finset.mem_erase.mpr ⟨ne cc1_scratch1 cc1_scratch0 (by decide), own cc1_scratch1 rfl⟩),
    SparseCore.bigSep_erase' (Finset.mem_erase.mpr ⟨ne cc1_scratch2 cc1_scratch1 (by decide),
      Finset.mem_erase.mpr ⟨ne cc1_scratch2 cc1_scratch0 (by decide), own cc1_scratch2 rfl⟩⟩)]

theorem tile_body (hF : (K (F := F)).Facts) (hpre : ∀ d n, (ix d n).toNat < 16384) (c : Fin 2) (i : Fin 16)
    (O : CellTallies nD τ sig (HIx 1)) (W : Waits sig (HIx 1)) (hO : ∀ g, O g none = 0) :
    iprop(levAts (K (F := F)).L (K (F := F)).lev ∗ emp ∗ tilePts tb ix d (o0 d) c i
        ∗ scopedBufs (VT d (coordsV c i)) ∗ scopedSems0 (VT d (coordsV c i)) ∗ owes (VT d (coordsV c i)) O W)
      ⊢ wp frame (wpE (defs₀ (F := F)) 𝒱₀ (VT d (coordsV c i)) none) Set.univ
          (cc1_sc_gather (coordsV c i) tV (Memref.isWhole_whole _) xV (Memref.isWhole_whole _) oV (Memref.isWhole_whole _)
            sT (Memref.isWhole_whole _) sX (Memref.isWhole_whole _) sO (Memref.isWhole_whole _) cc1_scratch3 cc1_scratch4 cc1_scoped0)
          fun _ => iprop(tilePts tb ix d (OUT tb ix d) c i
            ∗ scopedBufs (VT d (coordsV c i)) ∗ scopedSems0 (VT d (coordsV c i))
            ∗ ∃ W', ⌜∀ p ∈ W', p ∈ W ∨ p.2 = none ∨ p.2 = some (0 : Fin 1)⌝ ∗ owes (VT d (coordsV c i)) O W') := by
  rw [(K (F := F)).scopedBufs_V hF d (cV (coordsV c i)) (jV (coordsV c i)), SparseCore.Cfg.scopedSems0_V (Val := Elt F) d (cV (coordsV c i)) (jV (coordsV c i)),
    ownSems0_V, ownBufs_V]
  iintro ⟨#Hlv, -, ⟨Ht, Hx, Ho⟩, ⟨⟨%t0, HsT⟩, ⟨%x0, HsX⟩, ⟨%y0, HsO⟩, Hbufs⟩, ⟨HC, Hsems⟩, HO⟩
  ihave Hmw := (show levAts (K (F := F)).L (K (F := F)).lev ⊢ Transfers.MayWaits (VT d (coordsV c i)) (default : HIx 1) O from
    (K (F := F)).mayWaits_none (thr := VT d (coordsV c i)) hO) $$ Hlv
  iapply (wp_wand_r Idealize.ShloMosaic.frame (wpE (defs₀ (F := F)) 𝒱₀ (VT d (coordsV c i)) none) Set.univ)
  isplitl [Ht Hx Ho HsT HsX HsO HC HO]
  · iapply (tile_run tb ix d (coordsV c i) hpre (tileQ c i) O W (o0 d) t0 x0 y0)
    isplitr; · iexact Hmw
    isplitl [Ht]; · iexact Ht
    isplitl [Hx]; · iexact Hx
    isplitl [Ho]; · iexact Ho
    isplitl [HsT]; · iexact HsT
    isplitl [HsX]; · iexact HsX
    isplitl [HsO]; · iexact HsO
    isplitl [HC]; · iexact HC
    iexact HO
  iintro %_ ⟨Ht, Hx, Ho, ⟨%t1, HsT⟩, ⟨%x1, HsX⟩, ⟨%y1, HsO⟩, HC, ⟨%W', %hW', HO⟩⟩
  rw [View.set_whole, View.set_whole, View.set_whole]
  isplitl [Ht Hx Ho]
  · isplitl [Ht]; · iexact Ht
    isplitl [Hx]; · iexact Hx
    iexact Ho
  isplitl [HsT HsX HsO Hbufs]
  · isplitl [HsT]; · iexists _; iexact HsT
    isplitl [HsX]; · iexists _; iexact HsX
    isplitl [HsO]; · iexists _; iexact HsO
    iexact Hbufs
  isplitl [HC Hsems]
  · isplitl [HC]; · iexact HC
    iexact Hsems
  iexists W'; isplitr
  · ipureintro; intro p hp
    rcases hW' p hp with h | h
    · exact .inl h
    · exact .inr (.inl h)
  · iexact HO

theorem defs₀_vector (c : Fin τ.nSC) (s : Fin τ.nSub) :
    defs₀ (F := F) (.scVector c s) 1 ()
      = SparseCore.onTile hcore1 hsub1 (fun c s => cc1_sc_gather (coordsV c s)
          tV (Memref.isWhole_whole _) xV (Memref.isWhole_whole _) oV (Memref.isWhole_whole _)
          sT (Memref.isWhole_whole _) sX (Memref.isWhole_whole _) sO (Memref.isWhole_whole _) cc1_scratch3 cc1_scratch4 cc1_scoped0) ⟨⟩ c s := rfl

theorem tileObl (hF : (K (F := F)).Facts) (hpre : ∀ d n, (ix d n).toNat < 16384) : (K (F := F)).TileObl (D (F := F)) 𝒱 (P tb ix o0) v₀ 0 := by
  intro d c i O W hO _ _
  simp only [show (P tb ix o0).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body tb ix d o0 hF hpre ⟨_, hci.1⟩ ⟨_, hci.2⟩ O W hO

/-! ## The split -/

theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

/-- A SparseCore's share of a buffer is its tiles' shares. -/
theorem tileQ_eq {ℓ : Loc nD τ sig} (f : Buf (Elt F) ℓ) (c : Fin 2) :
    (bigSep Finset.univ fun i : Fin 16 => (ℓ ↦{tileQ c i} f : sProp 𝕄)) = (ℓ ↦{coreQ c} f) :=
  (ShareLeaves.pointsTo_leaves Finset.univ f 4 (coreQ c)).symm

/-- A buffer whole is the SparseCores' shares. -/
theorem coreQ_eq {ℓ : Loc nD τ sig} (f : Buf (Elt F) ℓ) :
    (bigSep Finset.univ fun c : Fin 2 => (ℓ ↦{coreQ c} f : sProp 𝕄)) = (ℓ ↦{fullShare} f) :=
  (ShareLeaves.pointsTo_leaves Finset.univ f 1 fullShare).symm

/-- A SparseCore's part is its tiles' parts. -/
theorem tiles_eq (f : Buf (Elt F) (oLoc d)) (c : Fin 2) :
    (bigSep Finset.univ fun i : Fin 16 => tilePts tb ix d f c i) = (corePts tb ix d f c : sProp 𝕄) := by
  unfold tilePts corePts
  rw [bigSep_sep', bigSep_sep', tileQ_eq, tileQ_eq]

/-- The table, the index list and the result whole are the SparseCores' parts. -/
theorem cores_eq (f : Buf (Elt F) (oLoc d)) :
    (bigSep Finset.univ fun c : Fin 2 => corePts tb ix d f c)
      = (iprop((tbLoc d ↦{fullShare} tb d) ∗ (ixLoc d ↦{fullShare} ix d) ∗ oLoc d ↦{fullShare} f) : sProp 𝕄) := by
  unfold corePts
  rw [bigSep_sep', bigSep_sep', coreQ_eq, coreQ_eq,
    ← BI.bigSep_univ_prod (fun p : Fin 2 × Fin 16 => (oLoc d ↦[rowSet p]{fullShare} f : sProp 𝕄)),
    ← pointsTo_biUnion Finset.univ (ℓ := oLoc d) rowSet rows_disjoint, rows_cover]

theorem vecSplit : (K (F := F)).VecSplit' (P tb ix o0) 0 := by
  intro d c
  show corePts tb ix d (o0 d) (Fin.cast nCore_zero c) ⊢ |={Set.univ}=> iprop(
      (bigSep Finset.univ fun i : Fin ((K (F := F)).nSub 0) => tilePts tb ix d (o0 d) (Fin.cast nCore_zero c) (Fin.cast nSub_zero i))
      ∗ ((bigSep Finset.univ fun i : Fin ((K (F := F)).nSub 0) => tilePts tb ix d (OUT tb ix d) (Fin.cast nCore_zero c) (Fin.cast nSub_zero i))
          -∗ corePts tb ix d (OUT tb ix d) (Fin.cast nCore_zero c)))
  rw [bigSep_tiles (F := F) (fun i => tilePts tb ix d (o0 d) (Fin.cast nCore_zero c) i),
    bigSep_tiles (F := F) (fun i => tilePts tb ix d (OUT tb ix d) (Fin.cast nCore_zero c) i), tiles_eq, tiles_eq]
  iintro H; imodintro
  isplitl [H]; · iexact H
  iintro H; iexact H

end Cert.Proof.Edge

end
-- ==== Proof.Table.lean ====
/-
  The TensorCore's region: `8 × 128` weights and `16384 × 128` edge features to the `8 × 16384` table of their inner
  products, in two blocks of `8192` columns. The body at one block, the region over the thread's state, and the
  array it leaves.
-/
module

public import proofs.«01_k».proof.Proof.Setup
public import proofs.«01_k».proof.Proof.Gen.KernelIdeal.Points
public import Idealize.ShloMosaic.Lib.Pipeline.FrameBody
public import Idealize.ShloMosaic.Lib.Pipeline.Value
public import Idealize.ShloMosaic.Lib.Pipeline.RegionsLoop

@[expose] public section

noncomputable section

namespace Cert.Proof.Edge

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F] [Named F]

local notation "𝕄" => MT nD τ sig (HIx 1) (Elt F) ℕ UU ℕ

/-! ## The body at one block -/

theorem hz2 : (![0, 0] : Fin 2 → Nat) = fun _ => 0 := funext fun a => by fin_cases a <;> rfl

/-- From the weights' block, the features' block and the result's buffer, the body leaves the first two and the block of
    inner products. -/
theorem table_body (c : Dev nD) (i : grid0.Coords) (M0 : Memref sig .tc .vmem S8x128 .f32) (h0 : M0.IsWhole)
    (M1 : Memref sig .tc .vmem S8192x128 .f32) (h1 : M1.IsWhole) (M2 : Memref sig .tc .vmem S8x8192 .f32) (h2 : M2.IsWhole)
    (X0 : S8x128.Idx → F .f32) (X1 : S8192x128.Idx → F .f32) (X2 : S8x8192.Idx → F .f32) (E : Set ℕ) (Q : PUnit → sProp 𝕄) :
    iprop(owns (Val := Elt F) (c : Thread nD τ) M0 fullShare X0 ∗ owns (Val := Elt F) (c : Thread nD τ) M1 fullShare X1
        ∗ owns (Val := Elt F) (c : Thread nD τ) M2 fullShare X2
        ∗ (iprop(owns (Val := Elt F) (c : Thread nD τ) M0 fullShare X0 ∗ owns (Val := Elt F) (c : Thread nD τ) M1 fullShare X1
            ∗ owns (Val := Elt F) (c : Thread nD τ) M2 fullShare (k0_pay1 X0 X1)) -∗ Q ⟨⟩))
      ⊢ wp frame (wpE (defs₀ (F := F)) 𝒱₀ c none) E (cc0__dot_table_body i M0 h0 M1 h1 M2 h2) Q := by
  rw [cc0__dot_table_body_eq_skeleton]
  unfold owns
  iintro ⟨⟨%f0, %e0, H0⟩, ⟨%f1, %e1, H1⟩, ⟨%f2, %e2, H2⟩, Hk⟩
  sl_exec!
  sl_step
  iapply Hk
  isplitl [H0]
  · iexists f0; isplitr; · ipureintro; exact e0
    iexact H0
  isplitl [H1]
  · iexists f1; isplitr; · ipureintro; exact e1
    iexact H1
  iexists _; isplitr; swap
  · iexact H2
  ipureintro
  show View.read (Elt F) M2.view (M2.view.writes (Elt F) M2.view.junk [⟨Rect.unit ![0, 0] S8x8192.size inb_S8x8192_S8x8192_0_0,
    k0_pay1 (View.readAt (Elt F) M0.view (Rect.unit ![0, 0] S8x128.size inb_S8x128_S8x128_0_0).toLoadRect f0)
      (View.readAt (Elt F) M1.view (Rect.unit ![0, 0] S8192x128.size inb_S8192x128_S8192x128_0_0).toLoadRect f1)⟩]) = _
  rw [View.read_writes_junk_eq_canon, View.canon_unit_zero hz2, View.readAt_eq_ld, View.readAt_eq_ld, e0, e1,
    View.ld_unit_zero hz2, View.ld_unit_zero hz2]

/-! ## The proof data, at an entry valuation -/

variable (V : Dev nD → Valuation τ sig (Elt F))

/-- The two input blocks as the fetch stages them. -/
abbrev blkW (c : Dev nD) (t : Fin cfg0.N) : S8x128.Idx → F .f32 := ((cfg0.win 0).blk t).view.read (Elt F) (V c main_v2)
abbrev blkA (c : Dev nD) (t : Fin cfg0.N) : S8192x128.Idx → F .f32 := ((cfg0.win 1).blk t).view.read (Elt F) (V c main_arg1)

/-- The region's proof data, the arrays at `V`: each point leaves the two blocks and their inner products; the thread owes
    the handshakes' tallies throughout, its recorded waits all at the lowest level. -/
def dat (c : Dev nD) : Dat τ (Elt F) (HIx 1) ℕ UU ℕ cfg0 c where
  A w := V c (Pipeline.arrRef spec0 w)
  after w t := match w with
    | ⟨0, _⟩ => blkW V c t
    | ⟨1, _⟩ => blkA V c t
    | ⟨2, _⟩ => k0_pay1 (blkW V c t) (blkA V c t)
  Φ _ := Pipeline.scopedRest (Ix := HIx 1) (Name := ℕ) (U := UU) (Lvl := ℕ) (Val := Elt F) spec0 c
  q _ := fullShare
  owed _ := (K (F := F)).Otc c 0
  recorded _ := {p | (K (F := F)).lev (SparseCore.T c, p.1) p.2 ≤ 0}

abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat V c

theorem before_0 (c : Dev nD) (t : Fin cfg0.N) (d) : (dat V c).before 0 t d = blkW V c t :=
  (dat V c).before_in_eq_fetched 0 rfl (fun _ => rfl) (fun _ _ _ => rfl) (fun _ => rfl) t d

theorem before_1 (c : Dev nD) (t : Fin cfg0.N) (d) : (dat V c).before 1 t d = blkA V c t :=
  (dat V c).before_in_eq_fetched 1 rfl (fun _ => rfl) (fun _ _ _ => rfl) (fun _ => rfl) t d

theorem body_obligation (c : Dev nD) : BodyObligation (dat V c) (defs₀ (F := F)) 𝒱₀ (none : HIx 1) Set.univ := fun t => by
  rw [bigSep_W0, bigSep_W0]
  rw [show (dat V c).owesAt none t.succ = (dat V c).owesAt none t.castSucc from rfl,
    show (dat V c).Φ t.succ = (dat V c).Φ t.castSucc from rfl]
  iintro ⟨HΦ, Howes, ⟨%d0, H0⟩, ⟨%d1, H1⟩, ⟨%d2, H2⟩⟩
  rw [before_0, before_1]
  iapply (table_body (F := F) c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2)) (blkW V c t) (blkA V c t) _ Set.univ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

/-! ## The array the region leaves -/

/-- Rows `8192 k + ·` of the features, as a block; -/
def rowsOf (at' : S16384x128.Idx → F .f32) (k : Nat) (hk : k < 2) : S8192x128.Idx → F .f32 := fun j =>
  at' fun | 0 => ⟨8192 * k + (j 0).val, by have : (j 0).val < 8192 := (j 0).isLt; show _ < 16384; omega⟩ | 1 => ⟨(j 1).val, (j 1).isLt⟩

/-- the whole table, block by block. -/
def tabOf (ev : S8x128.Idx → F .f32) (at' : S16384x128.Idx → F .f32) : S8x16384.Idx → F .f32 := fun x =>
  k0_pay1 ev (rowsOf at' ((x 1).val / 8192) (by have : (x 1).val < 16384 := (x 1).isLt; omega))
    fun | 0 => ⟨(x 0).val, (x 0).isLt⟩ | 1 => ⟨(x 1).val % 8192, Nat.mod_lt _ (by decide)⟩

theorem idx0_0 : ∀ t : Fin cfg0.N, win0_0.index t (0 : Fin 2) = 0 ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = t.val :=
  (by decide +kernel : ∀ t : Fin grid0.N, _)

theorem blkW_eq (c : Dev nD) (t : Fin cfg0.N) : blkW V c t = V c main_v2 := by
  funext j
  show V c main_v2 ((win0_0.rect t).emb j) = V c main_v2 j
  refine congrArg _ (funext fun a => Fin.ext ?_)
  match a with
  | ⟨0, _⟩ => show win0_0.index t 0 * 8 + 1 * (j 0).val = (j 0).val; rw [(idx0_0 t).1]; omega
  | ⟨1, _⟩ => show win0_0.index t 1 * 128 + 1 * (j 1).val = (j 1).val; rw [(idx0_0 t).2]; omega

theorem blkA_eq (c : Dev nD) (t : Fin cfg0.N) (h : t.val < 2) : blkA V c t = rowsOf (V c main_arg1) t.val h := by
  funext j
  show V c main_arg1 ((win0_1.rect t).emb j) = V c main_arg1 _
  refine congrArg _ (funext fun a => Fin.ext ?_)
  match a with
  | ⟨0, _⟩ => show win0_1.index t 0 * 8192 + 1 * (j 0).val = 8192 * t.val + (j 0).val; rw [(idx0_1 t).1]; omega
  | ⟨1, _⟩ => show win0_1.index t 1 * 128 + 1 * (j 1).val = (j 1).val; rw [(idx0_1 t).2]; omega

theorem tabOf_at (ev : S8x128.Idx → F .f32) (at' : S16384x128.Idx → F .f32) (x : S8x16384.Idx) (k : Nat) (hk : k < 2) (y : S8x8192.Idx)
    (h0 : (x 0).val = (y 0).val) (h1 : (x 1).val = 8192 * k + (y 1).val) :
    tabOf ev at' x = k0_pay1 ev (rowsOf at' k hk) y := by
  have hy : (y 1).val < 8192 := (y 1).isLt
  have hd : (x 1).val / 8192 = k := by omega
  subst hd
  unfold tabOf
  refine congrArg (k0_pay1 ev _) (funext fun a => Fin.ext ?_)
  match a with
  | ⟨0, _⟩ => exact h0
  | ⟨1, _⟩ => show (x 1).val % 8192 = (y 1).val; omega

theorem flushed_eq (c : Dev nD) (t : Fin cfg0.N) :
    (dat V c).flushed 2 t = (win0_2.blk t).view.read (Elt F) (tabOf (V c main_v2) (V c main_arg1)) := by
  have ht : t.val < 2 := t.isLt.trans_eq N_0
  show k0_pay1 (blkW V c t) (blkA V c t) = _
  rw [blkW_eq, blkA_eq V c t ht]
  funext y
  show _ = tabOf (V c main_v2) (V c main_arg1) ((win0_2.rect t).emb y)
  refine (tabOf_at _ _ _ t.val ht y ?_ ?_).symm
  · show win0_2.index t 0 * 8 + 1 * (y 0).val = (y 0).val; rw [(idx0_2 t).1]; omega
  · show win0_2.index t 1 * 8192 + 1 * (y 1).val = 8192 * t.val + (y 1).val; rw [(idx0_2 t).2]; omega

theorem cover (i : S8x16384.Idx) : ∃ t : Fin cfg0.N, (cfg0.win 2).flush t = true ∧ i ∈ ((cfg0.win 2).blk t).view.set := by
  have hi : (i 1).val < 16384 := (i 1).isLt
  have hi0 : (i 0).val < 8 := (i 0).isLt
  refine ⟨⟨(i 1).val / 8192, by rw [show cfg0.N = 2 from N_0]; omega⟩, flush0_2 _, ?_⟩
  generalize ht : (⟨(i 1).val / 8192, _⟩ : Fin cfg0.N) = t
  have htv : t.val = (i 1).val / 8192 := by rw [← ht]
  show i ∈ ((View.whole main_v3).slice (win0_2.rect t)).set
  rw [View.set_slice_whole, Rect.mem_set_unit]
  intro a
  match a with
  | ⟨0, _⟩ => show win0_2.index t 0 * 8 ≤ (i 0).val ∧ (i 0).val < win0_2.index t 0 * 8 + 8; rw [(idx0_2 t).1]; omega
  | ⟨1, _⟩ => show win0_2.index t 1 * 8192 ≤ (i 1).val ∧ (i 1).val < win0_2.index t 1 * 8192 + 8192; rw [(idx0_2 t).2]; omega

theorem arr_out (c : Dev nD) : (dat V c).arrAt 2 cfg0.N = tabOf (V c main_v2) (V c main_arg1) :=
  (dat V c).arrAt_eq_of_cover 2 (tabOf (V c main_v2) (V c main_arg1)) (fun t _ => flushed_eq V c t) cover

/-! ## The region over the thread's state -/

theorem Otc_none (c : Dev nD) (n : ℕ) (g : GSem nD τ sig) : (K (F := F)).Otc (N := 1) c n g none = 0 := by
  unfold SparseCore.Cfg.Otc
  rw [Fin.sum_univ_one]
  split
  · rw [Finset.sum_apply, Finsupp.finset_sum_apply]
    exact Finset.sum_eq_zero fun i _ => (tallyAt_apply _ _ _ _ _).trans (if_neg fun h => nomatch h.2)
  · rfl

theorem region_waits (c : Dev nD) : (levAts (K (F := F)).L (K (F := F)).lev : sProp 𝕄)
    ⊢ Pipeline.cellsWaits (Pipeline.pin (pcfgs (F := F)) adm) (pdats V) (none : HIx 1) 0 c := by
  apply Pipeline.cellsWaits_intro
  intro w s t
  exact (K (F := F)).mayWait_none _ (O := (K (F := F)).Otc (N := 1) c 0) (fun g => Otc_none c 0 g) (K (F := F)).lev

/-- Every unscoped buffer of the TensorCore at a valuation, what it owes the handshakes with it. -/
def regSt (V : Dev nD → Valuation τ sig (Elt F)) (c : Dev nD) : sProp 𝕄 :=
  iprop(unscopedBufs (c : Dev nD) (fun b => V c b)
    ∗ ∃ W : Waits sig (HIx 1), ⌜(↑W : Set (SemLoc sig × HIx 1)) ⊆ {p | (K (F := F)).lev (SparseCore.T c, p.1) p.2 ≤ 0}⌝
      ∗ owes (c : Thread nD τ) ((K (F := F)).Otc (N := 1) c 0) W)

variable (Vp : Dev nD → Valuation τ sig (Elt F))

set_option backward.isDefEq.respectTransparency.types false in
/-- The region, entered from `V` and left at any valuation with the table at `main_v3` that agrees with `V` elsewhere. -/
def reg (hVp_out : ∀ c, Vp c main_v3 = tabOf (V c main_v2) (V c main_arg1))
    (hVp_ne : ∀ c (b : Ref sig .tc), b ≠ main_v3 → Vp c b = V c b) :
    Pipeline.RegionSeg (pcfgs (F := F)) adm (pdats V) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).loose
  hwaits c := region_waits V c
  pre c := regSt V c
  post c := regSt Vp c
  X _ := BI.emp
  Y _ := BI.emp
  Z c := Pipeline.unscopedRest (Ix := HIx 1) (Name := ℕ) (U := UU) (Lvl := ℕ) spec0 c fun b => V c b
  hentry c := by
    rw [Pipeline.ownSems0_none]
    have hsplit := Pipeline.arrays_of_unscopedBufs (p := 0) (pcfgs (F := F)) adm (pdats V) launch0.win launch0.arr_whole c
      ((pdats V 0 c).share_full fun _ => rfl) (fun b => V c b) fun _ => rfl
    unfold regSt
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun _ h => Or.inl (hW h)
      iexact HO
    isplitr; · iempintro
    iexact Hrest
  hin c := by
    rw [show (pdats V 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats V 0 c).Φ (Fin.last _)
      = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c
      (pdats V) ((pdats V 0 c).share_full fun _ => rfl) (fun b => V c b) (fun b => Vp c b) ((pdats V 0 c).arrAt · cfg0.N)
      (fun w => by
        fin_cases w
        · exact ((pdats V 0 c).arrAt_in 0 rfl _).trans (hVp_ne c main_v2 (by decide)).symm
        · exact ((pdats V 0 c).arrAt_in 1 rfl _).trans (hVp_ne c main_arg1 (by decide)).symm
        · exact (arr_out V c).trans (hVp_out c).symm)
      (fun b hb => hVp_ne c b fun h => hb (h ▸ Finset.mem_image.mpr ⟨2, Finset.mem_univ _, rfl⟩))
    iintro ⟨Ha, HO, -, Hrest⟩
    imodintro
    unfold regSt
    isplitl [Ha Hrest]
    · iapply hjoin; isplitl [Ha] <;> iassumption
    unfold Pipeline.Dat.owesAt Pipeline.owesWithin
    icases HO with ⟨%W, %hW, HO⟩; iexists W; isplitr; swap; (· iexact HO)
    ipureintro
    intro p hp
    rcases hW hp with h | ⟨w, s, rfl⟩
    · exact h
    · exact Nat.le_refl 0

end Cert.Proof.Edge

end
-- ==== Proof.Main.lean ====
/-
  @main on the TensorCore: the weights' padding, the region that makes the table, the index list and the flattening of
  the table, the SparseCores' call. Then the program's run, its result as a function of the launch memory.
-/
module

public import proofs.«01_k».proof.Proof.Calls
public import proofs.«01_k».proof.Proof.Table

@[expose] public section

noncomputable section

namespace Cert.Proof.Edge

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The host operations, and the buffers' contents through @main -/

/-- Before the region: the weights' five rows written over eight rows of zeros. -/
def ops1 : List (HloOp τ sig (Elt F)) :=
  [ StableHlo.nullary main_cst (constant S_ .f32 0x00000000#32),
    StableHlo.unary main_cst main_v0 (broadcastInDim S8x128 ![] bcast_S_S8x128 : (⟨S_, .f32⟩ : BufTy).Contents (Elt F) → (⟨S8x128, .f32⟩ : BufTy).Contents (Elt F)),
    StableHlo.nullary main_c (constantI S_ 32 0#32),
    StableHlo.unary main_c main_v1 (broadcastInDim S1 ![] bcast_S_S1 : (⟨S_, .i32⟩ : BufTy).Contents (Elt F) → (⟨S1, .i32⟩ : BufTy).Contents (Elt F)),
    StableHlo.ternary main_v0 main_v1 main_arg3 main_v2 ((fun x i u => Host.scatter scatter_S8x128_S1_S5x128_01_n_0_0 (fun _ b => b) x i u) : (⟨S8x128, .f32⟩ : BufTy).Contents (Elt F) → (⟨S1, .i32⟩ : BufTy).Contents (Elt F) → (⟨S5x128, .f32⟩ : BufTy).Contents (Elt F) → (⟨S8x128, .f32⟩ : BufTy).Contents (Elt F)) ]

/-- After it: the paths, step-major, as one list, and the table as one list. -/
def ops2 : List (HloOp τ sig (Elt F)) :=
  [ StableHlo.unary main_arg2 main_v4 ((transpose S5x256x256 [2, 0, 1] · transposes_S256x256x5_S5x256x256_2_0_1) : (⟨S256x256x5, .i32⟩ : BufTy).Contents (Elt F) → (⟨S5x256x256, .i32⟩ : BufTy).Contents (Elt F)),
    StableHlo.reshape main_v4 main_v5 (rfl : (.i32 : EltTy) = .i32) shapeCasts_S5x256x256_S327680,
    StableHlo.reshape main_v3 main_v6 (rfl : (.f32 : EltTy) = .f32) shapeCasts_S8x16384_S131072 ]

variable (m : (ℓ : Loc nD τ sig) → Buf (Elt F) ℓ) (ρ : Dev nD → PrngReg)

def V0 (d : Dev nD) : Valuation τ sig (Elt F) := fun b => m (d, b)
def V1 (d : Dev nD) : Valuation τ sig (Elt F) := StableHlo.after ops1 (V0 m d)
def V2 (d : Dev nD) : Valuation τ sig (Elt F) :=
  Function.update (V1 m d) (Proc.tc.devRef main_v3) (tabOf (V1 m d main_v2) (V1 m d main_arg1))
def V3 (d : Dev nD) : Valuation τ sig (Elt F) := StableHlo.after ops2 (V2 m d)

theorem V2_out (d : Dev nD) : V2 m d main_v3 = tabOf (V1 m d main_v2) (V1 m d main_arg1) := Function.update_self ..
theorem V2_ne (d : Dev nD) (b : Ref sig .tc) (h : b ≠ main_v3) : V2 m d b = V1 m d b :=
  Function.update_of_ne (fun e => h (Proc.devRef_injective _ e)) ..

theorem ops1_sub : (ops1 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub ..,
    StableHlo.ternary_bufs_sub ..⟩
theorem ops2_sub : (ops2 : List (HloOp τ sig (Elt F))).Forall fun op => op.bufs ⊆ StableHlo.tcRefs τ sig :=
  ⟨StableHlo.unary_bufs_sub .., StableHlo.reshape_bufs_sub .., StableHlo.reshape_bufs_sub ..⟩

theorem V1_of (d : Dev nD) (r : Ref sig .tc) (h : r ∉ [main_cst, main_v0, main_c, main_v1, main_v2]) : V1 m d r = m ((d : Thread nD τ).loc r) :=
  StableHlo.after_of_writes_sub ops1 (V0 m d) (StableHlo.forall_writes_sub_of_map (by rfl)) h
theorem V3_of (d : Dev nD) (r : Ref sig .tc) (h : r ∉ [main_v4, main_v5, main_v6]) : V3 m d r = V2 m d r :=
  StableHlo.after_of_writes_sub ops2 (V2 m d) (StableHlo.forall_writes_sub_of_map (by rfl)) h
/-- A buffer nothing on the TensorCore writes keeps its launch contents. -/
theorem V3_keep (d : Dev nD) (r : Ref sig .tc) (h3 : r ∉ [main_v4, main_v5, main_v6]) (h2 : r ≠ main_v3)
    (h1 : r ∉ [main_cst, main_v0, main_c, main_v1, main_v2]) : V3 m d r = m ((d : Thread nD τ).loc r) := by
  rw [V3_of m d r h3, V2_ne m d r h2, V1_of m d r h1]

/-! ## The buffers held -/

/-- The TensorCore's references that outlive a region. -/
def bufs : Finset (DevRef τ sig) := (StableHlo.tcRefs τ sig).filter fun b => ¬ b.isScoped

theorem bufs_held (d : Dev nD) (W : Valuation τ sig (Elt F)) :
    (unscopedBufs d (fun b => W b) : sProp 𝕄) = StableHlo.held (d : Thread nD τ) bufs W := by
  unfold unscopedBufs StableHlo.held bufs StableHlo.tcRefs
  rw [Finset.filter_map, bigSep_map]
  rfl

theorem sub_bufs {ops : List (HloOp τ sig (Elt F))} (h : ops.Forall fun op => op.bufs ⊆ StableHlo.tcRefs τ sig) :
    ∀ op ∈ ops, op.bufs ⊆ bufs := by
  intro op hop b hb
  rw [bufs, Finset.mem_filter]
  refine ⟨(List.forall_iff_forall_mem.mp h) op hop hb, ?_⟩
  rw [op.no_scoped b hb]
  exact Bool.false_ne_true

/-- The unscoped buffers, the call's first, the arguments next. -/
theorem bufs_split (d : Dev nD) (W : (b : Ref sig .tc) → Buf (Elt F) ((d.tc : Thread nD τ).loc b)) :
    (unscopedBufs d W : sProp 𝕄) = iprop((tbLoc d ↦{fullShare} W main_v6) ∗ (ixLoc d ↦{fullShare} W main_v5) ∗ (oLoc d ↦{fullShare} W main_v7)
      ∗ ((d : Thread nD τ).loc main_arg0 ↦{fullShare} W main_arg0) ∗ ((d : Thread nD τ).loc main_arg1 ↦{fullShare} W main_arg1)
      ∗ ((d : Thread nD τ).loc main_arg2 ↦{fullShare} W main_arg2) ∗ ((d : Thread nD τ).loc main_arg3 ↦{fullShare} W main_arg3)
      ∗ bigSep {main_cst, main_v0, main_c, main_v1, main_v2, main_v3, main_v4} fun b => (d.tc : Thread nD τ).loc b ↦{fullShare} W b) := by
  unfold unscopedBufs
  rw [show (Finset.univ.filter fun b : Ref sig .tc => ¬ b.isScoped) = {main_v6, main_v5, main_v7, main_arg0, main_arg1, main_arg2, main_arg3,
      main_cst, main_v0, main_c, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide)]

/-! ## The launch element -/

/-- The table and the index list the SparseCores' call is made with, and the result's buffer before it. -/
abbrev tbM (d : Dev nD) : S131072.Idx → F .f32 := V3 m d main_v6
abbrev ixM (d : Dev nD) : S327680.Idx → BitVec 32 := V3 m d main_v5
abbrev oM (d : Dev nD) : Buf (Elt F) (oLoc d) := m (oLoc d)
abbrev PM : (K (F := F)).Pay (nD := nD) (Val := Elt F) (Name := ℕ) (U := UU) := P (tbM m) (ixM m) (oM m)

def u₀ : UU := (initOf (K (F := F)).hsCells (K (F := F)).hsToks, (initOf (Pipeline.cells cfgs cellOf_inj) (Pipeline.launchToks cfgs cellOf_inj), 1))

/-- The pipeline's ghost state on a device. -/
def GG (d : Dev nD) : sProp 𝕄 := iprop(Pipeline.cellsGhost (Pipeline.pin (pcfgs (F := F)) adm) EP 0 d ∗ Pipeline.toksInit (Pipeline.pin (pcfgs (F := F)) adm) EP 0 d)

theorem ownR_split (a : UP) (b : Counters) : (BI.own (embR (a, b)) : sProp 𝕄) ⊢ iprop(BI.own (EP a) ∗ BI.own (((Emb.inr : Emb Counters (UP × Counters)).trans embR) b)) :=
  BI.own_op_elim ((embR : Emb (UP × Counters) 𝕄).op_of_mem (Prod.mk_mem_op (URA.mem_op_one a) (URA.mem_one_op b)))

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => GG (F := F) d)
        ∗ bigSep Finset.univ fun thr : Thread nD τ => bigSep Finset.univ fun q : Fin 1 => (PM m).x q thr) := by
  unfold u₀
  iintro Hu
  ihave H := (ownU_pair (initOf (K (F := F)).hsCells (K (F := F)).hsToks) ((initOf (Pipeline.cells cfgs cellOf_inj) (Pipeline.launchToks cfgs cellOf_inj), 1) : UP × Counters)) $$ Hu
  icases H with ⟨HH, HR⟩
  ihave HR' := (ownR_split (F := F) (initOf (Pipeline.cells cfgs cellOf_inj) (Pipeline.launchToks cfgs cellOf_inj)) 1) $$ HR
  icases HR' with ⟨HP, -⟩
  ihave HG := (Pipeline.fund_ghost (Pipeline.pin (pcfgs (F := F)) adm) EP cellOf_inj) $$ HP
  imod HG with ⟨Hc, Ht⟩
  imodintro
  isplitl [HH]; · iexact HH
  isplitl [Hc Ht]
  · unfold GG
    rw [bigSep_sep']
    isplitl [Hc]
    · rw [show (bigSep Finset.univ fun d : Dev nD => Pipeline.cellsGhost (Pipeline.pin (pcfgs (F := F)) adm) EP 0 d)
          = (bigSep Finset.univ fun d : Dev nD => bigSep Finset.univ fun p => Pipeline.cellsGhost (Pipeline.pin (pcfgs (F := F)) adm) EP p d : sProp 𝕄) from
        bigSep_congr fun d _ => (bigSep_univ_of_subsingleton (0 : Fin 1) (Φ := fun p => Pipeline.cellsGhost (Pipeline.pin (pcfgs (F := F)) adm) EP p d)).symm]
      iexact Hc
    · rw [show (bigSep Finset.univ fun d : Dev nD => Pipeline.toksInit (Pipeline.pin (pcfgs (F := F)) adm) EP 0 d)
          = (bigSep Finset.univ fun d : Dev nD => bigSep Finset.univ fun p => Pipeline.toksInit (Pipeline.pin (pcfgs (F := F)) adm) EP p d : sProp 𝕄) from
        bigSep_congr fun d _ => (bigSep_univ_of_subsingleton (0 : Fin 1) (Φ := fun p => Pipeline.toksInit (Pipeline.pin (pcfgs (F := F)) adm) EP p d)).symm]
      iexact Ht
  rw [show (bigSep Finset.univ fun thr : Thread nD τ => bigSep Finset.univ fun q : Fin 1 => (PM m).x q thr) = bigSep Finset.univ fun _ => iprop(emp) from
    bigSep_congr fun _ _ => bigSep_univ_of_subsingleton (0 : Fin 1), bigSep_emp']
  iempintro

/-! ## @main on the TensorCore -/

theorem main_eq (d : Dev nD) : main (F := F) d
    = StableHlo.seq ops1 >>= fun _ => SparseCore.liftProg (.op (.customCall (Pipeline.entry 0) ()) .ret) >>= fun _ =>
        StableHlo.seq ops2 >>= fun _ => (K (F := F)).run d 0 := by
  rw [StableHlo.seq_bind_seqK ops2]
  exact (show main (F := F) d = StableHlo.seqK ops1 (SparseCore.liftProg (.op (.customCall (Pipeline.entry 0) ()) .ret) >>= fun _ =>
        StableHlo.seqK ops2 ((K (F := F)).run d 0)) from rfl).trans (StableHlo.seq_bind_seqK ops1 _).symm

theorem st0_eq (d : Dev nD) : (bigSep Finset.univ fun c : Fin ((K (F := F)).nCore 0) => (PM m).st 0 d c)
    = (iprop((tbLoc d ↦{fullShare} tbM m d) ∗ (ixLoc d ↦{fullShare} ixM m d) ∗ oLoc d ↦{fullShare} oM m d) : sProp 𝕄) :=
  (bigSep_cores (F := F) (corePts (tbM m) (ixM m) d (oM m d))).trans (cores_eq (tbM m) (ixM m) d (oM m d))
theorem dn0_eq (d : Dev nD) : (bigSep Finset.univ fun c : Fin ((K (F := F)).nCore 0) => (PM m).dn 0 d c)
    = (iprop((tbLoc d ↦{fullShare} tbM m d) ∗ (ixLoc d ↦{fullShare} ixM m d) ∗ oLoc d ↦{fullShare} OUT (tbM m) (ixM m) d) : sProp 𝕄) :=
  (bigSep_cores (F := F) (corePts (tbM m) (ixM m) d (OUT (tbM m) (ixM m) d))).trans (cores_eq (tbM m) (ixM m) d _)

/-- What is kept of the run: the result and the arguments. -/
def FIN (d : Dev nD) : sProp 𝕄 :=
  iprop((oLoc d ↦{fullShare} OUT (tbM m) (ixM m) d)
      ∗ ((d : Thread nD τ).loc main_arg0 ↦{fullShare} m ((d : Thread nD τ).loc main_arg0)) ∗ ((d : Thread nD τ).loc main_arg1 ↦{fullShare} m ((d : Thread nD τ).loc main_arg1))
      ∗ ((d : Thread nD τ).loc main_arg2 ↦{fullShare} m ((d : Thread nD τ).loc main_arg2)) ∗ ((d : Thread nD τ).loc main_arg3 ↦{fullShare} m ((d : Thread nD τ).loc main_arg3)))

theorem regSt_eq (V : Dev nD → Valuation τ sig (Elt F)) (d : Dev nD) : regSt V d = iprop(StableHlo.held (d : Thread nD τ) bufs (V d)
    ∗ ∃ W : Waits sig (HIx 1), ⌜(↑W : Set (SemLoc sig × HIx 1)) ⊆ {p | (K (F := F)).lev (SparseCore.T d, p.1) p.2 ≤ 0}⌝
      ∗ owes (d : Thread nD τ) ((K (F := F)).Otc (N := 1) d 0) W) := by
  unfold regSt; rw [bufs_held]

theorem reg_pre (d : Dev nD) : (reg (V1 m) (V2 m) (V2_out m) (V2_ne m)).pre d = iprop(StableHlo.held (d : Thread nD τ) bufs (V1 m d)
    ∗ ∃ W : Waits sig (HIx 1), ⌜(↑W : Set (SemLoc sig × HIx 1)) ⊆ {p | (K (F := F)).lev (SparseCore.T d, p.1) p.2 ≤ 0}⌝
      ∗ owes (d : Thread nD τ) ((K (F := F)).Otc (N := 1) d 0) W) := regSt_eq (V1 m) d
theorem reg_post (d : Dev nD) : (reg (V1 m) (V2 m) (V2_out m) (V2_ne m)).post d = iprop(StableHlo.held (d : Thread nD τ) bufs (V2 m d)
    ∗ ∃ W : Waits sig (HIx 1), ⌜(↑W : Set (SemLoc sig × HIx 1)) ⊆ {p | (K (F := F)).lev (SparseCore.T d, p.1) p.2 ≤ 0}⌝
      ∗ owes (d : Thread nD τ) ((K (F := F)).Otc (N := 1) d 0) W) := regSt_eq (V2 m) d

theorem hmain [∀ e, Nonempty (Elt F e)] (κ : GSem nD τ sig → ℕ) (d : Dev nD) :
    iprop((K (F := F)).ctx EH (PM m) κ ∗ (K (F := F)).tcSt EH d 0 ∗ (K (F := F)).tcRes m ρ d ∗ GG (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd GG
  rw [main_eq, show (unscopedBufs d (fun b => m ((SparseCore.T d).loc b)) : sProp 𝕄) = StableHlo.held (d : Thread nD τ) bufs (V0 m d) from
    bufs_held d (V0 m d)]
  iintro ⟨#Hctx, Hst, ⟨Hb, Hbufs, Hts, -⟩, Hcg, Htk⟩
  -- the operations before the region
  iapply (StableHlo.wp_seq (defs := (K (F := F)).defs (D (F := F))) 𝒱 none Set.univ d bufs _ ops1 (sub_bufs ops1_sub) (by intro op h; unfold ops1 at h; fin_cases h <;> rfl) (V0 m d)) $$ [Hb Hbufs]
  · isplitl [Hb] <;> iassumption
  iintro ⟨Hb, Hbufs⟩
  -- the region
  rw [wp_bind]
  iapply ((K (F := F)).wp_liftProg (D (F := F)) 𝒱 (SparseCore.T d) Set.univ none)
  ihave #Hlev := ((K (F := F)).ctx_levAts (EH := EH) (P := PM m) κ) $$ Hctx
  unfold SparseCore.Cfg.tcSt
  icases Hst with ⟨⟨%W, %hW, HO⟩, Hst⟩
  iapply (Pipeline.RegionSeg.wp (pcfgs (F := F)) adm (pdats (V1 m)) (none : HIx 1) cellOf_inj EP defs₀ 𝒱₀ (K (F := F)).L (K (F := F)).lev
    (reg (V1 m) (V2 m) (V2_out m) (V2_ne m)) d none (fun u hu => nomatch hu) .ret _)
  isplitr [Hb Hbufs HO Hcg Htk]; swap
  · isplitl [Hb]; · iexact Hb
    isplitl [Hbufs HO]
    · iapply (Entails.of_eq (reg_pre m d).symm)
      isplitl [Hbufs]; · iexact Hbufs
      iexists W; isplitr; swap; (· iexact HO); ipureintro
      exact fun p hp => hW p hp
    isplitr; · iexact Hlev
    isplitl [Hcg] <;> iassumption
  iintro ⟨Hb, Hpost⟩
  ihave Hp := (Entails.of_eq (reg_post m d)) $$ Hpost
  icases Hp with ⟨Hbufs, %W', %hW', HO⟩
  rw [wp_ret]
  imodintro
  -- the operations after it
  iapply (StableHlo.wp_seq (defs := (K (F := F)).defs (D (F := F))) 𝒱 none Set.univ d bufs _ ops2 (sub_bufs ops2_sub) (by intro op h; unfold ops2 at h; fin_cases h <;> rfl) (V2 m d)) $$ [Hb Hbufs]
  · isplitl [Hb] <;> iassumption
  iintro ⟨Hb, Hbufs⟩
  ihave Hbufs' := (Entails.of_eq (show (StableHlo.held (d : Thread nD τ) bufs (StableHlo.after ops2 (V2 m d)) : sProp 𝕄) = _ from
    (bufs_held (F := F) d (V3 m d)).symm.trans (bufs_split d fun b => V3 m d b))) $$ Hbufs
  icases Hbufs' with ⟨Htb, Hix, Ho, H0, H1, H2, H3, -⟩
  rw [V3_keep m d main_v7 (by decide) (by decide) (by decide), V3_keep m d main_arg0 (by decide) (by decide) (by decide),
    V3_keep m d main_arg1 (by decide) (by decide) (by decide), V3_keep m d main_arg2 (by decide) (by decide) (by decide),
    V3_keep m d main_arg3 (by decide) (by decide) (by decide)]
  -- the SparseCores' call
  iapply ((K (F := F)).wp_run (D (F := F)) 𝒱 (EH := EH) (P := PM m) κ d 0) $$ [Hst HO Htb Hix Ho H0 H1 H2 H3 Hb Hts]
  isplitr; · iexact Hctx
  isplitl [Hst HO]
  · unfold SparseCore.Cfg.tcSt
    isplitl [HO]
    · iexists W'; isplitr; swap; (· iexact HO); ipureintro
      exact fun p hp => hW' hp
    iexact Hst
  isplitl [Htb Hix Ho]
  · rw [st0_eq]
    isplitl [Htb]; · iexact Htb
    isplitl [Hix] <;> iassumption
  iintro ⟨Hst, Hdn⟩
  ihave Hdn' := (Entails.of_eq (dn0_eq m d)) $$ Hdn
  icases Hdn' with ⟨-, -, Ho⟩
  isplitl [Hst]; · unfold SparseCore.Cfg.tcSt; iexact Hst
  isplitr [Hb Hts]
  · unfold FIN
    isplitl [Ho]; · iexact Ho
    isplitl [H0]; · iexact H0
    isplitl [H1]; · iexact H1
    isplitl [H2] <;> iassumption
  isplitl [Hb] <;> iassumption

/-! ## The program's run -/

def fq (d : Dev nD) (s' : Phys nD τ sig (Elt F)) : Prop :=
  s'.mem.mem (oLoc d) = OUT (tbM m) (ixM m) d
    ∧ (s'.mem.mem ((d : Thread nD τ).loc main_arg0) = m ((d : Thread nD τ).loc main_arg0) ∧ s'.mem.mem ((d : Thread nD τ).loc main_arg1) = m ((d : Thread nD τ).loc main_arg1)
    ∧ s'.mem.mem ((d : Thread nD τ).loc main_arg2) = m ((d : Thread nD τ).loc main_arg2) ∧ s'.mem.mem ((d : Thread nD τ).loc main_arg3) = m ((d : Thread nD τ).loc main_arg3))

theorem agree (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitr; · ipureintro; exact funext fun (i : Idx ℓ) => h i (by simp)
  iexact HSI

theorem hfin (d : Dev nD) (s' : Phys nD τ sig (Elt F)) : iprop(FIN m d ∗ SI s') ⊢ (⌜fq m d s'⌝ : sProp 𝕄) := by
  unfold FIN
  iintro ⟨⟨Ho, H0, H1, H2, H3⟩, HSI⟩
  ihave H := (agree s' (oLoc d) _) $$ [Ho HSI]
  · isplitl [Ho] <;> iassumption
  icases H with ⟨%ho, HSI⟩
  ihave H := (agree s' ((d : Thread nD τ).loc main_arg0) _) $$ [H0 HSI]
  · isplitl [H0] <;> iassumption
  icases H with ⟨%h0, HSI⟩
  ihave H := (agree s' ((d : Thread nD τ).loc main_arg1) _) $$ [H1 HSI]
  · isplitl [H1] <;> iassumption
  icases H with ⟨%h1, HSI⟩
  ihave H := (agree s' ((d : Thread nD τ).loc main_arg2) _) $$ [H2 HSI]
  · isplitl [H2] <;> iassumption
  icases H with ⟨%h2, HSI⟩
  ihave H := (agree s' ((d : Thread nD τ).loc main_arg3) _) $$ [H3 HSI]
  · isplitl [H3] <;> iassumption
  icases H with ⟨%h3, -⟩
  ipureintro
  exact ⟨ho, h0, h1, h2, h3⟩

/-- The program runs to its end: the result at the sums looked up, the arguments as they were, every semaphore at zero. -/
theorem run_main [∀ e, Nonempty (Elt F e)] (hpre : ∀ d n, (ixM m d n).toNat < 16384) :
    θ_run (Cert.KernelIdeal.defs (F := F)) (Cert.KernelIdeal.threads (F := F)) ⟨m, fun _ => 0, ρ⟩ fun r =>
      (∀ d : Dev nD, r.2.mem (oLoc d) = G (tbM m d) (ixM m d)
        ∧ (r.2.mem ((d : Thread nD τ).loc main_arg0) = m ((d : Thread nD τ).loc main_arg0) ∧ r.2.mem ((d : Thread nD τ).loc main_arg1) = m ((d : Thread nD τ).loc main_arg1)
          ∧ r.2.mem ((d : Thread nD τ).loc main_arg2) = m ((d : Thread nD τ).loc main_arg2) ∧ r.2.mem ((d : Thread nD τ).loc main_arg3) = m ((d : Thread nD τ).loc main_arg3)))
      ∧ r.2.sem = fun _ => 0 :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (tbM m) (ixM m) (oM m) facts hpre)
    (fun q _ => match q with | 0 => SparseCore.Cfg.VecSplit.of_plain (vecSplit (tbM m) (ixM m) (oM m)))
    m ρ main (GG (F := F)) (FIN m) (u₀ (F := F)) (sep_elim_left.trans (hu₀ m)) (hmain m ρ) (fq m) (hfin m) _ (fun _ h hz => ⟨h, hz⟩)

end Cert.Proof.Edge

end
-- ==== Proof.Values.lean ====
/-
  What the host operations leave before the SparseCores' call, as functions of the launch memory: the index list, the
  table's rows, the weights. And the precondition read back: every path entry is a row of the edge array.
-/
module

public import proofs.«01_k».proof.Proof.Main
public import proofs.«01_k».proof.Proof.Gen.Pre_in_range
public import Idealize.ShloMosaic.Lib.ReduceAll
public import Idealize.ShloMosaic.Lib.Pipeline.Value
public import Idealize.ShloMosaic.Lib.Routing.OpsSet

@[expose] public section

noncomputable section

namespace Cert.Proof.Edge

open Cert.KernelIdeal Cert.KernelIdeal.Gen

open Idealize.ShloMosaic
open Idealize.ShloMosaic.TcCoe
open Idealize.SL.Sem

variable {F : FTy → Type} [FloatOps F] [Named F]
variable (m : (ℓ : Loc nD τ sig) → Buf (Elt F) ℓ)

/-! ## The precondition -/

/-- An entry at least 0 and below 16384, signed, is below 16384 as a natural number. -/
theorem toNat_lt_of_andi (v : BitVec 32) (h : IntOp.andi (IntOp.cmpi .sge v 0#32) (IntOp.cmpi .slt v 16384#32) = 1#1) : v.toNat < 16384 := by
  obtain ⟨h0, h1⟩ := IntOp.andi_eq_one.1 h
  have h0 : (0#32 : BitVec 32).sle v = true := by
    by_contra hc
    rw [Bool.not_eq_true] at hc
    simp [IntOp.cmpi, hc] at h0
  have h1 : v.slt 16384#32 = true := by
    by_contra hc
    rw [Bool.not_eq_true] at hc
    simp [IntOp.cmpi, hc] at h1
  simp only [BitVec.sle_eq_decide, BitVec.slt_eq_decide, decide_eq_true_eq, BitVec.toInt_eq_toNat_cond, BitVec.toNat_ofNat, Nat.reducePow, Nat.reduceMod] at h0 h1
  omega

/-- The precondition's word says so of every entry of the paths. -/
theorem in_range_all {G : FTy → Type} [FloatOps G] (x0 : FVec G Cert.Pre_in_range.S256x128 .f32) (x1 : FVec G Cert.Pre_in_range.S16384x128 .f32)
    (x2 : IVec Cert.Pre_in_range.S256x256x5 32) (x3 : FVec G Cert.Pre_in_range.S5x128 .f32)
    (h : Cert.Pre_in_range.fn (F := G) x0 x1 x2 x3 = fun _ => 1#1) (k : Cert.Pre_in_range.S256x256x5.Idx) : (x2 k).toNat < 16384 := by
  haveI : Subsingleton Cert.Pre_in_range.S_.Idx := ⟨fun a b => funext fun i => i.elim0⟩
  have h' := congrFun h (fun i => i.elim0)
  exact toNat_lt_of_andi _ (Host.reduce_andi_all _ _ _ _ _ h' k)

/-! ## The index list -/

theorem ixM_eq (d : Dev nD) : ixM m d = shapeCast S327680 (transpose S5x256x256 [2, 0, 1] (m ((d : Thread nD τ).loc main_arg2)) transposes_S256x256x5_S5x256x256_2_0_1)
    shapeCasts_S5x256x256_S327680 := by
  have e : V2 m d main_arg2 = m ((d : Thread nD τ).loc main_arg2) := by rw [V2_ne m d main_arg2 (by decide), V1_of m d main_arg2 (by decide)]
  rw [← e]
  unfold ixM V3 ops2
  after_results_simp <;> rfl

/-- Every entry of the list is an entry of the paths. -/
theorem ixM_mem (d : Dev nD) (n : S327680.Idx) : ∃ k : S256x256x5.Idx, ixM m d n = m ((d : Thread nD τ).loc main_arg2) k :=
  ⟨_, congrFun (ixM_eq m d) n⟩

/-- Under the precondition every entry of the list is a row of the edge array. -/
theorem ixM_lt (h : ∀ (d : Dev nD) (k : S256x256x5.Idx), (m ((d : Thread nD τ).loc main_arg2) k : BitVec 32).toNat < 16384) :
    ∀ d n, (ixM m d n).toNat < 16384 := fun d n => by
  obtain ⟨k, hk⟩ := ixM_mem m d n
  rw [hk]
  exact h d k

/-- Entry `65536 p + 256 r + c` is step `p` of the path from `r` to `c`. -/
theorem ixM_at (d : Dev nD) (p r c : ℕ) (hp : p < 5) (hr : r < 256) (hc : c < 256) :
    ixM m d (ixAt (65536 * p + (256 * r + c))) = m ((d : Thread nD τ).loc main_arg2) (fun | 0 => ⟨r, hr⟩ | 1 => ⟨c, hc⟩ | 2 => ⟨p, hp⟩) := by
  rw [ixM_eq, shapeCast_apply _ _ _ (fun | 0 => ⟨p, hp⟩ | 1 => ⟨r, hr⟩ | 2 => ⟨c, hc⟩ : S5x256x256.Idx)]
  · refine transpose_apply _ _ _ _ _ fun b => ?_
    match b with
    | ⟨0, _⟩ => rfl
    | ⟨1, _⟩ => rfl
    | ⟨2, _⟩ => rfl
  · rw [Shape.rowMajor_val_three, Shape.rowMajor_val_one]
    show (p * 256 + r) * 256 + c = (65536 * p + (256 * r + c)) % 327680
    omega

end Cert.Proof.Edge

end
-- ==== Proof.Printed.Values.lean ====
/-
  For the kernel as printed, at any float values, what the module of the same name one directory up says of its idealized form:
  the two programs are the same but for one constant.

  What the host operations leave before the SparseCores' call, as functions of the launch memory: the index list, the
  table's rows, the weights. And the precondition read back: every path entry is a row of the edge array.
-/
module

public import proofs.«01_k».proof.Proof.Printed.Main
public import proofs.«01_k».proof.Proof.Gen.Pre_in_range
public import Idealize.ShloMosaic.Lib.ReduceAll
public import Idealize.ShloMosaic.Lib.Pipeline.Value
public import Idealize.ShloMosaic.Lib.Routing.OpsSet

@[expose] public section

noncomputable section

namespace Cert.Proof.Printed

open Cert.Kernel Cert.Kernel.Gen

open Idealize.ShloMosaic
open Idealize.ShloMosaic.TcCoe
open Idealize.SL.Sem

variable {F : FTy → Type} [FloatOps F]
variable (m : (ℓ : Loc nD τ sig) → Buf (Elt F) ℓ)

/-! ## The precondition -/

/-- An entry at least 0 and below 16384, signed, is below 16384 as a natural number. -/
theorem toNat_lt_of_andi (v : BitVec 32) (h : IntOp.andi (IntOp.cmpi .sge v 0#32) (IntOp.cmpi .slt v 16384#32) = 1#1) : v.toNat < 16384 := by
  obtain ⟨h0, h1⟩ := IntOp.andi_eq_one.1 h
  have h0 : (0#32 : BitVec 32).sle v = true := by
    by_contra hc
    rw [Bool.not_eq_true] at hc
    simp [IntOp.cmpi, hc] at h0
  have h1 : v.slt 16384#32 = true := by
    by_contra hc
    rw [Bool.not_eq_true] at hc
    simp [IntOp.cmpi, hc] at h1
  simp only [BitVec.sle_eq_decide, BitVec.slt_eq_decide, decide_eq_true_eq, BitVec.toInt_eq_toNat_cond, BitVec.toNat_ofNat, Nat.reducePow, Nat.reduceMod] at h0 h1
  omega

/-- The precondition's word says so of every entry of the paths. -/
theorem in_range_all {G : FTy → Type} [FloatOps G] (x0 : FVec G Cert.Pre_in_range.S256x128 .f32) (x1 : FVec G Cert.Pre_in_range.S16384x128 .f32)
    (x2 : IVec Cert.Pre_in_range.S256x256x5 32) (x3 : FVec G Cert.Pre_in_range.S5x128 .f32)
    (h : Cert.Pre_in_range.fn (F := G) x0 x1 x2 x3 = fun _ => 1#1) (k : Cert.Pre_in_range.S256x256x5.Idx) : (x2 k).toNat < 16384 := by
  haveI : Subsingleton Cert.Pre_in_range.S_.Idx := ⟨fun a b => funext fun i => i.elim0⟩
  have h' := congrFun h (fun i => i.elim0)
  exact toNat_lt_of_andi _ (Host.reduce_andi_all _ _ _ _ _ h' k)

/-! ## The index list -/

theorem ixM_eq (d : Dev nD) : ixM m d = shapeCast S327680 (transpose S5x256x256 [2, 0, 1] (m ((d : Thread nD τ).loc main_arg2)) transposes_S256x256x5_S5x256x256_2_0_1)
    shapeCasts_S5x256x256_S327680 := by
  have e : V2 m d main_arg2 = m ((d : Thread nD τ).loc main_arg2) := by rw [V2_ne m d main_arg2 (by decide), V1_of m d main_arg2 (by decide)]
  rw [← e]
  unfold ixM V3 ops2
  after_results_simp <;> rfl

/-- Every entry of the list is an entry of the paths. -/
theorem ixM_mem (d : Dev nD) (n : S327680.Idx) : ∃ k : S256x256x5.Idx, ixM m d n = m ((d : Thread nD τ).loc main_arg2) k :=
  ⟨_, congrFun (ixM_eq m d) n⟩

/-- Under the precondition every entry of the list is a row of the edge array. -/
theorem ixM_lt (h : ∀ (d : Dev nD) (k : S256x256x5.Idx), (m ((d : Thread nD τ).loc main_arg2) k : BitVec 32).toNat < 16384) :
    ∀ d n, (ixM m d n).toNat < 16384 := fun d n => by
  obtain ⟨k, hk⟩ := ixM_mem m d n
  rw [hk]
  exact h d k

end Cert.Proof.Printed

end
-- ==== Proof.Frames.lean ====
/-
  The frames: the kernel as printed and its idealized form by their runs, the reference by its own; and the named constant.
-/
module

public import proofs.«01_k».proof.Defs
public import proofs.«01_k».proof.Proof.Values
public import proofs.«01_k».proof.Proof.Printed.Values
public import proofs.«01_k».proof.Proof.Gen.ReferenceIdeal
public import proofs.«01_k».proof.Proof.Gen.ReferenceIdeal.Run

@[expose] public section

noncomputable section

namespace Cert.Proof.Edge

open Idealize.ShloMosaic Idealize.SL.Sem
open Idealize.ShloMosaic.TcCoe

theorem frameIdeal : Cert.quiescent_KernelIdeal (hKernelIdeal := Cert.KernelIdeal.Gen.facts) (hPre_in_range := Cert.Pre_in_range.Gen.facts) := fun m ρ hpre =>
  (θ_run Cert.KernelIdeal.defs _ _).mono (fun _ h => ⟨fun c => (h.1 c).2, h.2⟩)
    (run_main (F := Ideal) m ρ (ixM_lt m fun d => in_range_all _ _ _ _ (hpre d)))

theorem frameKernel : Cert.quiescent_Kernel (hKernel := Cert.Kernel.Gen.facts) (hPre_in_range := Cert.Pre_in_range.Gen.facts) := fun m ρ hpre =>
  (θ_run Cert.Kernel.defs _ _).mono (fun _ h => ⟨fun c => (h.1 c).2, h.2⟩)
    (Printed.run_main (F := Bits) m ρ (Printed.ixM_lt m fun d => Printed.in_range_all _ _ _ _ (hpre d)))

theorem frameReference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal :=
  IdealRules.named_const.statement Cert.KernelIdeal.κ "fifth" .f32 0x3E4CCCCD#32 ((1 / 5 : ℝ) : EReal) rfl

end Cert.Proof.Edge

end
-- ==== Proof.Sums.lean ====
/-
  The kernel's result over the extended reals: element `(r, c)` is the double sum, over the five steps and the 128
  features, of the step's weight times one fifth times the feature of the edge that the path takes at that step.
-/
module

public import proofs.«01_k».proof.Proof.Values
public import Idealize.ShloMosaic.Lib.MatmulPlain
public import Idealize.ShloMosaic.Lib.Routing.OpsPair

@[expose] public section

noncomputable section

namespace Cert.Proof.Edge

open Cert.KernelIdeal Cert.KernelIdeal.Gen

open Idealize.ShloMosaic
open Idealize.ShloMosaic.TcCoe
open Idealize.SL.Sem

/-! ## The host's arrays -/

section
variable {F : FTy → Type} [FloatOps F] [Named F]
variable (m : (ℓ : Loc nD τ sig) → Buf (Elt F) ℓ)

theorem tbM_eq (d : Dev nD) : tbM m d = shapeCast S131072 (tabOf (V1 m d main_v2) (m ((d : Thread nD τ).loc main_arg1))) shapeCasts_S8x16384_S131072 := by
  have e : V1 m d main_arg1 = m ((d : Thread nD τ).loc main_arg1) := V1_of m d main_arg1 (by decide)
  rw [← e, ← V2_out]
  unfold tbM V3 ops2
  after_results_simp <;> rfl

/-- Word `e + 16384 p` of the list is the table's at `(p, e)`. -/
theorem tbM_at (d : Dev nD) (p e : ℕ) (hp : p < 5) (he : e < 16384) :
    tbM m d (tbAt (e + 16384 * p)) = tabOf (V1 m d main_v2) (m ((d : Thread nD τ).loc main_arg1)) (ValueIdx.ix2 ⟨p, by omega⟩ ⟨e, he⟩) := by
  rw [tbM_eq, shapeCast_apply _ _ _ (ValueIdx.ix2 ⟨p, by omega⟩ ⟨e, he⟩ : S8x16384.Idx)]
  rw [Shape.rowMajor_val_two, Shape.rowMajor_val_one]
  show p * 16384 + e = (e + 16384 * p) % 131072
  omega

theorem V1_weights (d : Dev nD) : V1 m d main_v2 = Host.scatter scatter_S8x128_S1_S5x128_01_n_0_0 (fun _ b => b)
    (broadcastInDim S8x128 ![] bcast_S_S8x128 (constant S_ .f32 0x00000000#32) : FVec F S8x128 .f32)
    (broadcastInDim S1 ![] bcast_S_S1 (constantI S_ 32 0#32)) (m ((d : Thread nD τ).loc main_arg3)) := by
  unfold V1 ops1
  after_results_simp <;> rfl

/-- The scatter puts the update's element `(p, k)` at `(p, k)`. -/
theorem lands (i : IVec S1 32) (hi : ∀ k, i k = 0#32) (y : S5x128.Idx) (p : Fin 8) (k : Fin 128) :
    scatter_S8x128_S1_S5x128_01_n_0_0.resultIdx? y i = some (ValueIdx.ix2 p k) ↔ (y 0).val = p.val ∧ (y 1).val = k.val := by
  have s0 : scatter_S8x128_S1_S5x128_01_n_0_0.start y i (0 : Fin 2) = 0 := by
    unfold ScatterDims.start
    refine (dif_pos (List.mem_singleton.mpr rfl)).trans ?_
    rw [hi]
    rfl
  have s1 : scatter_S8x128_S1_S5x128_01_n_0_0.start y i (1 : Fin 2) = 0 := by
    unfold ScatterDims.start
    exact dif_neg (show (1 : Fin 2) ∉ [(0 : Fin 2)] by decide)
  have w0 : scatter_S8x128_S1_S5x128_01_n_0_0.window y (0 : Fin 2) = (y 0).val := by
    unfold ScatterDims.window
    exact dif_pos (show (0 : Fin 2) ∈ [(0 : Fin 2), 1] by decide)
  have w1 : scatter_S8x128_S1_S5x128_01_n_0_0.window y (1 : Fin 2) = (y 1).val := by
    unfold ScatterDims.window
    exact dif_pos (show (1 : Fin 2) ∈ [(0 : Fin 2), 1] by decide)
  refine (Routing.resultIdx?_ix2 (R := 8) (C := 128) scatter_S8x128_S1_S5x128_01_n_0_0 y i p k).trans ?_
  rw [s0, s1, w0, w1]
  omega

/-- The weights' first five rows are the edge vector's. -/
theorem V1_weights_at (d : Dev nD) (p : Fin 5) (k : Fin 128) :
    V1 m d main_v2 (ValueIdx.ix2 (⟨p.val, by omega⟩ : Fin 8) k : S8x128.Idx) = m ((d : Thread nD τ).loc main_arg3) (ValueIdx.ix2 p k : S5x128.Idx) := by
  rw [V1_weights]
  refine Routing.scatter_set_hit _ _ _ _ _ _ (fun y hy => ?_) (ValueIdx.ix2 p k : S5x128.Idx) ((lands _ (fun _ => rfl) _ _ _).2 ⟨rfl, rfl⟩)
  obtain ⟨h0, h1⟩ := (lands _ (fun _ => rfl) _ _ _).1 hy
  refine congrArg _ (funext fun a => Fin.ext ?_)
  match a with
  | ⟨0, _⟩ => exact h0
  | ⟨1, _⟩ => exact h1

end

/-! ## Over the extended reals -/

variable (m : (ℓ : Loc nD τ sig) → Buf (Elt Ideal) ℓ)

/-- The table's element at `(p, e)`. -/
theorem tabOf_sum (ev : S8x128.Idx → EReal) (at' : S16384x128.Idx → EReal) (p : Fin 8) (e : Fin 16384) :
    tabOf (F := Ideal) ev at' (ValueIdx.ix2 p e) = ∑ k : Fin 128, ev (ValueIdx.ix2 p k) * ((1 / 5 : ℝ) : EReal) * at' (ValueIdx.ix2 e k) := by
  have hk : e.val / 8192 < 2 := by omega
  have hq : e.val % 8192 < 8192 := Nat.mod_lt _ (by decide)
  rw [tabOf_at (F := Ideal) ev at' _ (e.val / 8192) hk (ValueIdx.ix2 p ⟨e.val % 8192, hq⟩) rfl (by show e.val = 8192 * (e.val / 8192) + e.val % 8192; omega)]
  unfold k0_pay1
  refine (Ideal.matmul_transposedRhs_apply (M := 8) (K := 128) (N := 8192) none _ _ _ p ⟨e.val % 8192, hq⟩).trans ?_
  rw [show (constant S8x8192 .f32 0x00000000#32 : FVec Ideal S8x8192 .f32) (ValueIdx.ix2 p ⟨e.val % 8192, hq⟩) = (0 : EReal) from Ideal.ofBits_zero_f32, zero_add]
  refine Finset.sum_congr rfl fun k _ => ?_
  rw [shapeCast_self]
  show _ * _ * rowsOf (F := Ideal) at' (e.val / 8192) hk (ValueIdx.ix2 ⟨e.val % 8192, hq⟩ k) = _
  refine congrArg _ (congrArg at' (funext fun a => Fin.ext ?_))
  match a with
  | ⟨0, _⟩ => show 8192 * (e.val / 8192) + e.val % 8192 = e.val; omega
  | ⟨1, _⟩ => rfl

variable (d : Dev nD) (x1 : S16384x128.Idx → EReal) (x2 : S256x256x5.Idx → BitVec 32) (x3 : S5x128.Idx → EReal) (hx : ∀ k, (x2 k).toNat < 16384)
  (e1 : m ((d : Thread nD τ).loc main_arg1) = x1) (e2 : m ((d : Thread nD τ).loc main_arg2) = x2) (e3 : m ((d : Thread nD τ).loc main_arg3) = x3)

include e1 e2 e3 in
/-- One step's word of the pair `(r, c)`. -/
theorem look_sum (p : Fin 5) (r c : Fin 256) :
    look (F := Ideal) (tbM m d) (ixM m d) p.val (256 * r.val + c.val)
      = ∑ k : Fin 128, x3 (ValueIdx.ix2 p k) * ((1 / 5 : ℝ) : EReal) * x1 (ValueIdx.ix2 ⟨(x2 (ValueIdx.ix3 r c p)).toNat, hx _⟩ k) := by
  unfold look
  have hi : ixM m d (ixAt (65536 * p.val + (256 * r.val + c.val))) = x2 (ValueIdx.ix3 r c p) := by
    rw [ixM_at m d p.val r.val c.val p.isLt r.isLt c.isLt, e2]
    refine congrArg x2 (funext fun a => ?_)
    match a with
    | ⟨0, _⟩ => rfl
    | ⟨1, _⟩ => rfl
    | ⟨2, _⟩ => rfl
  rw [hi, tbM_at m d p.val _ p.isLt (hx _), e1, tabOf_sum]
  refine Finset.sum_congr rfl fun k _ => ?_
  have hw := V1_weights_at m d p k
  rw [e3] at hw
  rw [hw]

include e1 e2 e3 in
/-- The result's element at `(r, c)`. -/
theorem G_sum (r c : Fin 256) :
    G (F := Ideal) (tbM m d) (ixM m d) (ValueIdx.ix2 r c)
      = ∑ p : Fin 5, ∑ k : Fin 128, x3 (ValueIdx.ix2 p k) * ((1 / 5 : ℝ) : EReal) * x1 (ValueIdx.ix2 ⟨(x2 (ValueIdx.ix3 r c p)).toNat, hx _⟩ k) := by
  have h := look_sum m d x1 x2 x3 hx e1 e2 e3
  rw [Fin.sum_univ_five, ← h 0 r c, ← h 1 r c, ← h 2 r c, ← h 3 r c, ← h 4 r c]
  rfl

/-! ## One fifth inside the sums, and a division by five outside -/

theorem sum_mul_fifth {ι : Type} (s : Finset ι) (f : ι → EReal) : (∑ i ∈ s, f i) * ((1 / 5 : ℝ) : EReal) = ∑ i ∈ s, f i * ((1 / 5 : ℝ) : EReal) := by
  classical
  induction s using Finset.induction_on with
  | empty => simp
  | insert a s ha ih =>
    rw [Finset.sum_insert ha, Finset.sum_insert ha,
      EReal.right_distrib_of_nonneg_of_ne_top (EReal.coe_nonneg.mpr (by norm_num)) (EReal.coe_ne_top _), ih]

theorem fifth_sums {ι κ' : Type} [Fintype ι] [Fintype κ'] (w f : ι → κ' → EReal) :
    ∑ p, ∑ k, w p k * ((1 / 5 : ℝ) : EReal) * f p k = Ideal.div (∑ p, ∑ k, w p k * f p k) ((5 : ℝ) : EReal) := by
  rw [Ideal.div_coe (by norm_num), sum_mul_fifth]
  refine Finset.sum_congr rfl fun p _ => ?_
  rw [sum_mul_fifth]
  exact Finset.sum_congr rfl fun k _ => mul_right_comm _ _ _

end Cert.Proof.Edge

end
-- ==== Proof.Reference.lean ====
/-
  The reference's result where every path entry is a row of the edge array: no entry is masked, every count is 5, and the
  element at `(r, c)` is the double sum over the five steps and the 128 features, divided by 5.
-/
module

public import proofs.«01_k».proof.Proof.Gen.ReferenceIdeal.Run
public import Idealize.ShloMosaic.Lib.ReduceAll
public import Idealize.ShloMosaic.Lib.IdealHost
public import Idealize.ShloMosaic.Lib.Pointwise.Reduce
public import Idealize.ShloMosaic.Lib.StableHlo.Predicate
public import Idealize.ShloMosaic.Lib.Pipeline.Value

@[expose] public section

noncomputable section

namespace Cert.Proof.Edge.Ref

open Cert.ReferenceIdeal Cert.ReferenceIdeal.Gen
open Idealize.ShloMosaic
open Idealize.ShloMosaic.TcCoe
open Idealize.SL.Sem

/-! ## The words -/

variable (v : BitVec 32) (hv : v.toNat < 16384)

include hv in
theorem toInt_eq : v.toInt = v.toNat := by rw [BitVec.toInt_eq_toNat_cond]; omega

include hv in
theorem sge_zero : IntOp.cmpi .sge v 0#32 = 1#1 := by
  have : (0#32 : BitVec 32).sle v = true := by rw [BitVec.sle_eq_decide, toInt_eq v hv]; simp
  simp [IntOp.cmpi, this]

include hv in
theorem sle_last : IntOp.cmpi .sle v 16383#32 = 1#1 := by
  have : v.sle 16383#32 = true := by
    rw [BitVec.sle_eq_decide, toInt_eq v hv]
    simp only [decide_eq_true_eq, BitVec.toInt_eq_toNat_cond, BitVec.toNat_ofNat, Nat.reducePow, Nat.reduceMod]
    omega
  simp [IntOp.cmpi, this]

include hv in
theorem slt_zero : IntOp.cmpi .slt v 0#32 = 0#1 := by
  have : v.slt 0#32 = false := by rw [BitVec.slt_eq_decide, toInt_eq v hv]; simp
  simp [IntOp.cmpi, this]

/-! ## The reference's values, one by one -/

abbrev zero32 : IVec S256x256x5 32 := broadcastInDim S256x256x5 ![] bcast_S_S256x256x5 (constantI S_ 32 0#32)

/-- Which entries are rows. -/
def mask (x2 : IVec S256x256x5 32) : IVec S256x256x5 1 :=
  andi (cmpi .sge x2 zero32) (cmpi .sle x2 (broadcastInDim S256x256x5 ![] bcast_S_S256x256x5 (constantI S_ 32 16383#32)))

/-- The entries, 0 where masked; -/
def safe (b : IVec S256x256x5 1) (x2 : IVec S256x256x5 32) : IVec S256x256x5 32 :=
  select b x2 (broadcastInDim S256x256x5 ![] bcast_S_S256x256x5 (id (constantI S_ 32 0#32)))

/-- negative ones counted from the end; -/
def wrapped (n : IVec S256x256x5 1) (x2 : IVec S256x256x5 32) : IVec S256x256x5 32 :=
  select n (addi x2 (broadcastInDim S256x256x5 ![] bcast_S_S256x256x5 (constantI S_ 32 16384#32))) x2

/-- and as the gather takes them. -/
def rows (x2 : IVec S256x256x5 32) : IVec S256x256x5x1 32 := broadcastInDim S256x256x5x1 ![0, 1, 2] bcast_S256x256x5_S256x256x5x1_0_1_2 x2

/-- Which of those are rows. -/
def inside (r : IVec S256x256x5x1 32) : IVec S256x256x5 1 :=
  Host.reduce IntOp.andi (andi (cmpi .sge r (broadcastInDim S256x256x5x1 ![] bcast_S_S256x256x5x1 (constantI S_ 32 0#32)))
    (cmpi .sle r (broadcastInDim S256x256x5x1 ![0, 1, 2, 3] bcast_S1x1x1x1_S256x256x5x1_0_1_2_3
      (broadcastInDim S1x1x1x1 ![3] bcast_S1_S1x1x1x1_3 (constantI S1 32 16383#32))))) (constantI S_ 1 1#1) reducesTo_S256x256x5x1_S256x256x5_d3 h_S_

/-- The gathered rows. -/
def feats (b : IVec S256x256x5 1) (x1 : FVec Ideal S16384x128 .f32) (r : IVec S256x256x5x1 32) : FVec Ideal S256x256x5x128 .f32 :=
  select (broadcastInDim S256x256x5x128 ![0, 1, 2] bcast_S256x256x5_S256x256x5x128_0_1_2 b)
    (Host.gather gather_S16384x128_S256x256x5x1_S256x256x5x128_3_0_n_n_0_3_1128 x1 r)
    (broadcastInDim S256x256x5x128 ![] bcast_S_S256x256x5x128 (constant S_ .f32 0x7FC00000#32))

/-- The products' sums over the features; -/
def dots (x3 : FVec Ideal S5x128 .f32) (f : FVec Ideal S256x256x5x128 .f32) : FVec Ideal S256x256x5 .f32 :=
  Host.reduceAdd (mulf (broadcastInDim S256x256x5x128 ![0, 1, 2, 3] bcast_S1x1x5x128_S256x256x5x128_0_1_2_3
    (broadcastInDim S1x1x5x128 ![2, 3] bcast_S5x128_S1x1x5x128_2_3 x3)) f) (constant S_ .f32 0x00000000#32) reducesTo_S256x256x5x128_S256x256x5_d3 h_S_

/-- the number of unmasked steps; -/
def count (b : IVec S256x256x5 1) : IVec S256x256 32 :=
  Host.reduce IntOp.addi (extui 32 b natLt_1_32) (constantI S_ 32 0#32) reducesTo_S256x256x5_S256x256_d2 h_S_

/-- and the mean over those steps. -/
def avg (b : IVec S256x256x5 1) (n : IVec S256x256 32) (x : FVec Ideal S256x256x5 .f32) : FVec Ideal S256x256 .f32 :=
  select (cmpi .sgt n (broadcastInDim S256x256 ![] bcast_S_S256x256 (constantI S_ 32 0#32)))
    (Host.divf (Host.reduceAdd (select b x (broadcastInDim S256x256x5 ![] bcast_S_S256x256x5 (id (constant S_ .f32 0x00000000#32))))
        (constant S_ .f32 0x00000000#32) reducesTo_S256x256x5_S256x256_d2 h_S_)
      (sitofp .f32 (maxsi n (broadcastInDim S256x256 ![] bcast_S_S256x256 (constantI S_ 32 1#32)))))
    (broadcastInDim S256x256 ![] bcast_S_S256x256 (id (constant S_ .f32 0x00000000#32)))

/-- The reference's result is these composed. -/
theorem res_avg (m : (ℓ : Loc nD τ sig) → Buf (Elt Ideal) ℓ) (c : Dev nD) :
    Cert.ReferenceIdeal.Value.res_main_v21 (F := Ideal) m c =
      (let x1 : FVec Ideal S16384x128 .f32 := m ((c.tc : Thread nD τ).loc main_arg1)
       let x2 : IVec S256x256x5 32 := m ((c.tc : Thread nD τ).loc main_arg2)
       let x3 : FVec Ideal S5x128 .f32 := m ((c.tc : Thread nD τ).loc main_arg3)
       let s := safe (mask x2) x2
       let r := rows (wrapped (cmpi .slt s zero32) s)
       avg (mask x2) (count (mask x2)) (dots x3 (feats (inside r) x1 r))) := rfl

/-! ## Where every entry is a row -/

variable (x2 : IVec S256x256x5 32) (hx : ∀ k, (x2 k).toNat < 16384)

include hx in
theorem mask_eq : mask x2 = fun _ => 1#1 := funext fun k => by
  show IntOp.andi (IntOp.cmpi .sge (x2 k) 0#32) (IntOp.cmpi .sle (x2 k) 16383#32) = 1#1
  rw [sge_zero _ (hx k), sle_last _ (hx k)]
  rfl

theorem safe_eq : safe (fun _ => 1#1) x2 = x2 := rfl

include hx in
theorem neg_eq : cmpi .slt x2 zero32 = fun _ => 0#1 := funext fun k => slt_zero _ (hx k)

theorem wrapped_eq : wrapped (fun _ => 0#1) x2 = x2 := rfl

theorem rows_at (k : S256x256x5x1.Idx) : rows x2 k = x2 (ix3 (k 0) (k 1) (k 2)) := by
  unfold rows
  refine broadcastInDim_apply _ _ _ _ _ fun a => ?_
  match a with
  | ⟨0, _⟩ => rfl
  | ⟨1, _⟩ => rfl
  | ⟨2, _⟩ => rfl

include hx in
theorem inside_eq : inside (rows x2) = fun _ => 1#1 :=
  funext fun j => Host.reduce_andi_one _ _ _ _ _ rfl fun k => by
    show IntOp.andi (IntOp.cmpi .sge (rows x2 k) 0#32) (IntOp.cmpi .sle (rows x2 k) 16383#32) = 1#1
    rw [rows_at, sge_zero _ (hx _), sle_last _ (hx _)]
    rfl

theorem count_eq : count (fun _ => 1#1) = fun _ => 5#32 :=
  funext fun j => by
    unfold count
    rw [Host.reduce_eq_fold, Shape.ReducesTo.fold_fiber_r3_a2]
    show Finset.fold IntOp.addi 0#32 (fun _ => 1#32) (Finset.univ : Finset (Fin 5)) = 5#32
    decide

/-- The gathered row at `(r, c, p, k)`. -/
theorem feats_at (x1 : FVec Ideal S16384x128 .f32) (r c : Fin 256) (p : Fin 5) (k : Fin 128) :
    feats (fun _ => 1#1) x1 (rows x2) (ix4 r c p k) = x1 (ix2 ⟨(x2 (ix3 r c p)).toNat, hx _⟩ k) := by
  have h0 : GatherDims.start gather_S16384x128_S256x256x5x1_S256x256x5x128_3_0_n_n_0_3_1128 (ix4 r c p k) (rows x2) (0 : Fin 2)
      = (x2 (ix3 r c p)).toNat := by
    unfold GatherDims.start
    refine (dif_pos (List.mem_singleton.mpr rfl)).trans ?_
    rw [rows_at]
    show min (x2 (ix3 r c p)).toInt.toNat (16384 - 1) = _
    have := hx (ix3 r c p)
    rw [toInt_eq _ this]
    omega
  have h1 : GatherDims.start gather_S16384x128_S256x256x5x1_S256x256x5x128_3_0_n_n_0_3_1128 (ix4 r c p k) (rows x2) (1 : Fin 2) = 0 := by
    unfold GatherDims.start
    exact dif_neg (show (1 : Fin 2) ∉ [(0 : Fin 2)] by decide)
  have o0 : GatherDims.offCoord gather_S16384x128_S256x256x5x1_S256x256x5x128_3_0_n_n_0_3_1128 (ix4 r c p k) (0 : Fin 2) = 0 :=
    GatherDims.offCoord_eq_zero _ _ _ (fun h => ((GatherDims.mem_sKept _ _).mp h).1 (List.mem_singleton.mpr rfl))
  have hb : ∀ a : Fin 2, GatherDims.batchCoord gather_S16384x128_S256x256x5x1_S256x256x5x128_3_0_n_n_0_3_1128 (ix4 r c p k) a = 0 := fun a =>
    GatherDims.batchCoord_eq_zero _ _ _ List.not_mem_nil
  show x1 (GatherDims.operandIdx gather_S16384x128_S256x256x5x1_S256x256x5x128_3_0_n_n_0_3_1128 (ix4 r c p k) (rows x2)) = _
  refine congrArg x1 (funext fun a => Fin.ext ?_)
  show GatherDims.start _ (ix4 r c p k) (rows x2) a + GatherDims.batchCoord _ (ix4 r c p k) a + GatherDims.offCoord _ (ix4 r c p k) a = _
  match a with
  | ⟨0, _⟩ =>
    exact congr (congrArg HAdd.hAdd (congr (congrArg HAdd.hAdd h0) (hb 0))) o0
  | ⟨1, _⟩ =>
    refine (congr (congrArg HAdd.hAdd (congr (congrArg HAdd.hAdd h1) (hb 1))) rfl).trans ?_
    show 0 + 0 + k.val = k.val
    omega

/-- The sum over the features at `(r, c, p)`. -/
theorem dots_at (x3 : FVec Ideal S5x128 .f32) (f : FVec Ideal S256x256x5x128 .f32) (r c : Fin 256) (p : Fin 5) :
    dots x3 f (ix3 r c p) = ∑ k : Fin 128, x3 (ix2 p k) * f (ix4 r c p k) := by
  unfold dots
  rw [ValueIdx.hostReduceAdd_apply, Ideal.hostReduceAdd_r4_a3]
  rw [show (constant S_ .f32 0x00000000#32 : FVec Ideal S_ .f32) (Shape.Idx.first h_S_) = (0 : EReal) from Ideal.ofBits_zero_f32, zero_add]
  refine Finset.sum_congr rfl fun k _ => ?_
  show _ * f _ = _
  congr 1
  refine (broadcastInDim_apply _ _ _ _ (ix4 0 0 p k) fun a => ?_).trans (broadcastInDim_apply _ _ _ _ (ix2 p k) fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl

/-- The mean over all five steps at `(r, c)`. -/
theorem avg_at (x : FVec Ideal S256x256x5 .f32) (r c : Fin 256) :
    avg (fun _ => 1#1) (fun _ => 5#32) x (ix2 r c) = Ideal.div (∑ p : Fin 5, x (ix3 r c p)) ((5 : ℝ) : EReal) := by
  have e : ∀ y z : EReal, Scalar.select (IntOp.cmpi .sgt 5#32 0#32) (Ideal.div y (((IntOp.maxsi 5#32 1#32).toInt : ℝ) : EReal)) z
      = Ideal.div y ((5 : ℝ) : EReal) := fun y z => by
    rw [show IntOp.cmpi .sgt 5#32 0#32 = 1#1 from rfl, show (IntOp.maxsi 5#32 1#32).toInt = 5 from rfl, show ((5 : ℤ) : ℝ) = 5 by norm_num]
    rfl
  refine (e _ (broadcastInDim S256x256 ![] bcast_S_S256x256 (id (constant S_ .f32 0x00000000#32) : FVec Ideal S_ .f32) (ix2 r c : S256x256.Idx))).trans (congrArg (fun y => Ideal.div y ((5 : ℝ) : EReal)) ?_)
  show Host.reduceAdd x _ reducesTo_S256x256x5_S256x256_d2 h_S_ (ix2 r c) = _
  rw [ValueIdx.hostReduceAdd_apply, Ideal.hostReduceAdd_r3_a2]
  rw [show (constant S_ .f32 0x00000000#32 : FVec Ideal S_ .f32) (Shape.Idx.first h_S_) = (0 : EReal) from Ideal.ofBits_zero_f32, zero_add]
  rfl

/-- The value: the double sum, over 5. -/
theorem res_at (m : (ℓ : Loc nD τ sig) → Buf (Elt Ideal) ℓ) (d : Dev nD) (x1 : FVec Ideal S16384x128 .f32) (x3 : FVec Ideal S5x128 .f32)
    (e1 : m ((d.tc : Thread nD τ).loc main_arg1) = x1) (e2 : m ((d.tc : Thread nD τ).loc main_arg2) = x2)
    (e3 : m ((d.tc : Thread nD τ).loc main_arg3) = x3) (r c : Fin 256) :
    Cert.ReferenceIdeal.Value.res_main_v21 (F := Ideal) m d (ix2 r c)
      = Ideal.div (∑ p : Fin 5, ∑ k : Fin 128, x3 (ix2 p k) * x1 (ix2 ⟨(x2 (ix3 r c p)).toNat, hx _⟩ k)) ((5 : ℝ) : EReal) := by
  rw [res_avg, e1, e2, e3]
  show avg (mask x2) (count (mask x2)) (dots x3 (feats (inside (rows (wrapped (cmpi .slt (safe (mask x2) x2) zero32) (safe (mask x2) x2)))) x1
    (rows (wrapped (cmpi .slt (safe (mask x2) x2) zero32) (safe (mask x2) x2))))) (ix2 r c) = _
  rw [mask_eq x2 hx, safe_eq, neg_eq x2 hx, wrapped_eq, inside_eq x2 hx, count_eq, avg_at]
  congr 1
  refine Finset.sum_congr rfl fun p _ => ?_
  rw [dots_at]
  refine Finset.sum_congr rfl fun k _ => ?_
  rw [feats_at x2 hx]

end Cert.Proof.Edge.Ref

end
-- ==== Proof.Algebraic.lean ====
/-
  Over the extended reals the kernel's result is the reference's: the fifth inside the kernel's sums is the reference's
  division by the five steps it counts.
-/
module

public import proofs.«01_k».proof.Proof.Frames
public import proofs.«01_k».proof.Proof.Sums
public import proofs.«01_k».proof.Proof.Reference

@[expose] public section

noncomputable section

namespace Cert.Proof.Edge

open Idealize.ShloMosaic Idealize.SL.Sem
open Idealize.ShloMosaic.TcCoe

theorem frameReferenceInRange : Cert.quiescent_ReferenceIdeal_pre_in_range (hReferenceIdeal := Cert.ReferenceIdeal.Gen.facts)
    (hPre_in_range := Cert.Pre_in_range.Gen.facts) := fun m ρ _ => frameReference m ρ trivial

theorem algebraic : Cert.algebraic_KernelIdeal_ReferenceIdeal (hKernelIdeal := Cert.KernelIdeal.Gen.facts)
    (hReferenceIdeal := Cert.ReferenceIdeal.Gen.facts) (hPre_in_range := Cert.Pre_in_range.Gen.facts) := fun m g m' g' hpre hargs => by
  have hx : ∀ (d : Dev Cert.KernelIdeal.nD) (k : Cert.KernelIdeal.S256x256x5.Idx),
      (m ((d : Thread Cert.KernelIdeal.nD Cert.KernelIdeal.τ).loc Cert.KernelIdeal.main_arg2) k : BitVec 32).toNat < 16384 :=
    fun d => in_range_all _ _ _ _ (hpre d)
  refine ⟨fun d => G (F := Ideal) (tbM m d) (ixM m d), ?_, ?_⟩
  · exact (θ_run Cert.KernelIdeal.defs _ _).mono (fun _ h => h.1) (run_main (F := Ideal) m g (ixM_lt m hx))
  · refine (θ_run Cert.ReferenceIdeal.defs _ _).mono (fun r h c => ⟨(h c).1.trans ?_, (h c).2⟩) (Cert.ReferenceIdeal.Value.run (F := Ideal) m' g')
    obtain ⟨-, a1, a2, a3⟩ := hargs c
    funext j
    have hj : j = ValueIdx.ix2 (j 0) (j 1) := ValueIdx.eq_ix2 j
    rw [hj]
    exact (Ref.res_at _ (hx c) m' c _ _ a1 a2 a3 (j 0) (j 1)).trans
      ((fifth_sums _ _).symm.trans (G_sum m c _ _ _ (hx c) rfl rfl rfl (j 0) (j 1)).symm)

end Cert.Proof.Edge

end
-- ==== Proof.lean ====
/-
  The proof of `Cert.Claim` (proofs.«01_k».proof.Defs): the frames and the named constant are Proof/Frames.lean's, the equation with the
  reference is Proof/Algebraic.lean's.
-/
module

public import proofs.«01_k».proof.Defs
public import proofs.«01_k».proof.Proof.Algebraic

@[expose] public section

noncomputable section

namespace Cert.Proof

theorem claim : Cert.Claim := ⟨Cert.Kernel.Gen.facts, Cert.KernelIdeal.Gen.facts, Cert.ReferenceIdeal.Gen.facts, Cert.Pre_in_range.Gen.facts,
  Edge.frameKernel, Edge.frameIdeal, Edge.frameReference, Edge.frameReferenceInRange, Edge.preserves, Edge.algebraic⟩

end Cert.Proof

end
